-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_negatives_apart [hPre_negatives_apart : Cert.Pre_negatives_apart.Facts] (m : (ℓ : Loc Cert.KernelIdeal.nD Cert.KernelIdeal.τ Cert.KernelIdeal.sig) → Buf (Elt Ideal) ℓ) : Prop :=
  ∀ c : Dev Cert.KernelIdeal.nD,
    (Cert.Pre_negatives_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_negatives_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_negatives_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_negatives_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_negatives_apart [hPre_negatives_apart : Cert.Pre_negatives_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_negatives_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_negatives_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_negatives_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_negatives_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_negatives_apart [hKernelIdeal : Cert.KernelIdeal.Facts] [hPre_negatives_apart : Cert.Pre_negatives_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_negatives_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_negatives_apart [hReferenceIdeal : Cert.ReferenceIdeal.Facts] [hPre_negatives_apart : Cert.Pre_negatives_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_negatives_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_negatives_apart [hKernelIdeal : Cert.KernelIdeal.Facts] [hReferenceIdeal : Cert.ReferenceIdeal.Facts] [hPre_negatives_apart : Cert.Pre_negatives_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_negatives_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_negatives_apart : Cert.Pre_negatives_apart.Facts),
    quiescent_Kernel (hKernel := hKernel)
    ∧ quiescent_KernelIdeal (hKernelIdeal := hKernelIdeal)
    ∧ quiescent_KernelIdeal_pre_negatives_apart (hKernelIdeal := hKernelIdeal) (hPre_negatives_apart := hPre_negatives_apart)
    ∧ quiescent_ReferenceIdeal (hReferenceIdeal := hReferenceIdeal)
    ∧ quiescent_ReferenceIdeal_pre_negatives_apart (hReferenceIdeal := hReferenceIdeal) (hPre_negatives_apart := hPre_negatives_apart)
    ∧ preserves_Kernel_KernelIdeal
    ∧ algebraic_KernelIdeal_ReferenceIdeal_pre_negatives_apart (hKernelIdeal := hKernelIdeal) (hReferenceIdeal := hReferenceIdeal) (hPre_negatives_apart := hPre_negatives_apart)
-- ==== Pre_negatives_apart.lean ====
abbrev S256x32x3 : Shape := ⟨3, ![256, 32, 3]⟩
abbrev S256x32 : Shape := ⟨2, ![256, 32]⟩
abbrev S256x32x32 : Shape := ⟨3, ![256, 32, 32]⟩
abbrev S4x4 : Shape := ⟨2, ![4, 4]⟩
abbrev S256x32x64x3 : Shape := ⟨4, ![256, 32, 64, 3]⟩
abbrev S3x3 : Shape := ⟨2, ![3, 3]⟩
abbrev S3x1 : Shape := ⟨2, ![3, 1]⟩
abbrev S3 : Shape := ⟨1, ![3]⟩
abbrev S1x1x3 : Shape := ⟨3, ![1, 1, 3]⟩
abbrev S_ : Shape := ⟨0, ![]⟩
abbrev S256x32x1 : Shape := ⟨3, ![256, 32, 1]⟩
abbrev S256x1x32 : Shape := ⟨3, ![256, 1, 32]⟩
abbrev S256x32x64 : Shape := ⟨3, ![256, 32, 64]⟩
abbrev S256x64x32x32 : Shape := ⟨4, ![256, 64, 32, 32]⟩
abbrev S256x32x32x64 : Shape := ⟨4, ![256, 32, 32, 64]⟩
abbrev S256x32x1x64 : Shape := ⟨4, ![256, 32, 1, 64]⟩
abbrev S256x1x32x64 : Shape := ⟨4, ![256, 1, 32, 64]⟩
abbrev S256x32x32x1 : Shape := ⟨4, ![256, 32, 32, 1]⟩

class Facts : Prop where
  slices_S4x4_S3x3_0_0 : S4x4.Slices ![0, 0] S3x3
  slices_S4x4_S3x1_0_3 : S4x4.Slices ![0, 3] S3x1
  shapeCasts_S3x1_S3 : S3x1.ShapeCasts S3
  transposes_S3x3_S3x3_1_0 : S3x3.Transposes [1, 0] S3x3
  bcast_S3_S1x1x3_2 : S3.BroadcastsInDim S1x1x3 (![2] : Fin 1 → Fin S1x1x3.rank)
  bcast_S1x1x3_S256x32x3_0_1_2 : S1x1x3.BroadcastsInDim S256x32x3 (![0, 1, 2] : Fin 3 → Fin S256x32x3.rank)
  reducesTo_S256x32x3_S256x32_d2 : S256x32x3.ReducesTo [2] S256x32
  h_S_ : 0 < S_.numel
  bcast_S256x32_S256x32x1_0_1 : S256x32.BroadcastsInDim S256x32x1 (![0, 1] : Fin 2 → Fin S256x32x1.rank)
  bcast_S256x32_S256x1x32_0_2 : S256x32.BroadcastsInDim S256x1x32 (![0, 2] : Fin 2 → Fin S256x1x32.rank)
  bcast_S256x32x1_S256x32x32_0_1_2 : S256x32x1.BroadcastsInDim S256x32x32 (![0, 1, 2] : Fin 3 → Fin S256x32x32.rank)
  bcast_S256x1x32_S256x32x32_0_1_2 : S256x1x32.BroadcastsInDim S256x32x32 (![0, 1, 2] : Fin 3 → Fin S256x32x32.rank)
  bcast_S_S256x32x32 : S_.BroadcastsInDim S256x32x32 (![] : Fin 0 → Fin S256x32x32.rank)
  reducesTo_S256x32x64x3_S256x32x64_d3 : S256x32x64x3.ReducesTo [3] S256x32x64
  transposes_S256x64x32x32_S256x32x32x64_0_3_2_1 : S256x64x32x32.Transposes [0, 3, 2, 1] S256x32x32x64
  bcast_S256x32x64_S256x32x1x64_0_1_3 : S256x32x64.BroadcastsInDim S256x32x1x64 (![0, 1, 3] : Fin 3 → Fin S256x32x1x64.rank)
  bcast_S256x32x64_S256x1x32x64_0_2_3 : S256x32x64.BroadcastsInDim S256x1x32x64 (![0, 2, 3] : Fin 3 → Fin S256x1x32x64.rank)
  bcast_S256x32x1x64_S256x32x32x64_0_1_2_3 : S256x32x1x64.BroadcastsInDim S256x32x32x64 (![0, 1, 2, 3] : Fin 4 → Fin S256x32x32x64.rank)
  bcast_S256x1x32x64_S256x32x32x64_0_1_2_3 : S256x1x32x64.BroadcastsInDim S256x32x32x64 (![0, 1, 2, 3] : Fin 4 → Fin S256x32x32x64.rank)
  bcast_S_S256x32x32x64 : S_.BroadcastsInDim S256x32x32x64 (![] : Fin 0 → Fin S256x32x32x64.rank)
  bcast_S_S3x3 : S_.BroadcastsInDim S3x3 (![] : Fin 0 → Fin S3x3.rank)
  bcast_S_S256x32x64x3 : S_.BroadcastsInDim S256x32x64x3 (![] : Fin 0 → Fin S256x32x64x3.rank)
  bcast_S256x32x32_S256x32x32x1_0_1_2 : S256x32x32.BroadcastsInDim S256x32x32x1 (![0, 1, 2] : Fin 3 → Fin S256x32x32x1.rank)
  bcast_S256x32x32x1_S256x32x32x64_0_1_2_3 : S256x32x32x1.BroadcastsInDim S256x32x32x64 (![0, 1, 2, 3] : Fin 4 → Fin S256x32x32x64.rank)
  dot_S256x32x3_S3x3_S256x32x3_2_0_01_1_n_n_wf : DotDims.WF S256x32x3 S3x3 S256x32x3 [2] [0] [0, 1] [1] [] []
  dot_S256x32x3_S256x32x3_S256x32x32_2_2_1_1_0_0_wf : DotDims.WF S256x32x3 S256x32x3 S256x32x32 [2] [2] [1] [1] [0] [0]
  dot_S256x32x64x3_S3x3_S256x32x64x3_3_1_012_0_n_n_wf : DotDims.WF S256x32x64x3 S3x3 S256x32x64x3 [3] [1] [0, 1, 2] [0] [] []
  dot_S256x32x64x3_S256x32x64x3_S256x64x32x32_3_3_1_1_02_02_wf : DotDims.WF S256x32x64x3 S256x32x64x3 S256x64x32x32 [3] [3] [1] [1] [0, 2] [0, 2]

variable [Facts]

def dot_S256x32x3_S3x3_S256x32x3_2_0_01_1_n_n : DotDims S256x32x3 S3x3 S256x32x3 where
  lhsContracting := [2]
  rhsContracting := [0]
  lhsNonContracting := [0, 1]
  rhsNonContracting := [1]
  lhsBatch := []
  rhsBatch := []
  wf := dot_S256x32x3_S3x3_S256x32x3_2_0_01_1_n_n_wf
def dot_S256x32x3_S256x32x3_S256x32x32_2_2_1_1_0_0 : DotDims S256x32x3 S256x32x3 S256x32x32 where
  lhsContracting := [2]
  rhsContracting := [2]
  lhsNonContracting := [1]
  rhsNonContracting := [1]
  lhsBatch := [0]
  rhsBatch := [0]
  wf := dot_S256x32x3_S256x32x3_S256x32x32_2_2_1_1_0_0_wf
def dot_S256x32x64x3_S3x3_S256x32x64x3_3_1_012_0_n_n : DotDims S256x32x64x3 S3x3 S256x32x64x3 where
  lhsContracting := [3]
  rhsContracting := [1]
  lhsNonContracting := [0, 1, 2]
  rhsNonContracting := [0]
  lhsBatch := []
  rhsBatch := []
  wf := dot_S256x32x64x3_S3x3_S256x32x64x3_3_1_012_0_n_n_wf
def dot_S256x32x64x3_S256x32x64x3_S256x64x32x32_3_3_1_1_02_02 : DotDims S256x32x64x3 S256x32x64x3 S256x64x32x32 where
  lhsContracting := [3]
  rhsContracting := [3]
  lhsNonContracting := [1]
  rhsNonContracting := [1]
  lhsBatch := [0, 2]
  rhsBatch := [0, 2]
  wf := dot_S256x32x64x3_S256x32x64x3_S256x64x32x32_3_3_1_1_02_02_wf
def fn_part2 {F : FTy → Type} [FloatOps F] (main_arg8 : FVec F S256x32x64x3 .f32) (main_arg9 : FVec F S256x32x64x3 .f32) (main_v0 : FVec F S3x3 .f32) (main_v29 : IVec S256x32x32 1) (main_v36 : FVec F S256x32x32x64 .f32) (main_v41 : FVec F S256x32x32x64 .f32) : IVec S3x3 1 × IVec S256x32x64x3 1 × IVec S256x32x64x3 1 × IVec S256x32x32x64 1 :=
  let main_cst_5 : FVec F S_ .f32 := constant S_ .f32 0x40000000#32
  let main_v42 : FVec F S256x32x32x64 .f32 := broadcastInDim S256x32x32x64 ![] bcast_S_S256x32x32x64 main_cst_5
  let main_v43 : FVec F S256x32x32x64 .f32 := mulf main_v42 main_v36
  let main_v44 : FVec F S256x32x32x64 .f32 := subf main_v41 main_v43
  let main_v45 : FVec F S3x3 .f32 := Host.absf main_v0
  let main_cst_6 : FVec F S_ .f32 := constant S_ .f32 0x7F800000#32
  let main_v46 : FVec F S3x3 .f32 := broadcastInDim S3x3 ![] bcast_S_S3x3 main_cst_6
  let main_v47 : IVec S3x3 1 := cmpf .olt main_v45 main_v46
  let main_v48 : FVec F S256x32x64x3 .f32 := Host.absf main_arg8
  let main_cst_7 : FVec F S_ .f32 := constant S_ .f32 0x7F800000#32
  let main_v49 : FVec F S256x32x64x3 .f32 := broadcastInDim S256x32x64x3 ![] bcast_S_S256x32x64x3 main_cst_7
  let main_v50 : IVec S256x32x64x3 1 := cmpf .olt main_v48 main_v49
  let main_v51 : FVec F S256x32x64x3 .f32 := Host.absf main_arg9
  let main_cst_8 : FVec F S_ .f32 := constant S_ .f32 0x7F800000#32
  let main_v52 : FVec F S256x32x64x3 .f32 := broadcastInDim S256x32x64x3 ![] bcast_S_S256x32x64x3 main_cst_8
  let main_v53 : IVec S256x32x64x3 1 := cmpf .olt main_v51 main_v52
  let main_cst_9 : FVec F S_ .f32 := constant S_ .f32 0x2B8CBCCC#32
  let main_v54 : FVec F S256x32x32x64 .f32 := broadcastInDim S256x32x32x64 ![] bcast_S_S256x32x32x64 main_cst_9
  let main_v55 : IVec S256x32x32x64 1 := cmpf .oge main_v44 main_v54
  let main_v56 : IVec S256x32x32 1 := noti main_v29
  let main_v57 : IVec S256x32x32x1 1 := broadcastInDim S256x32x32x1 ![0, 1, 2] bcast_S256x32x32_S256x32x32x1_0_1_2 main_v56
  let main_v58 : IVec S256x32x32x64 1 := broadcastInDim S256x32x32x64 ![0, 1, 2, 3] bcast_S256x32x32x1_S256x32x32x64_0_1_2_3 main_v57
  let main_v59 : IVec S256x32x32x64 1 := ori main_v55 main_v58
  (main_v47, main_v50, main_v53, main_v59)

def fn_part1 {F : FTy → Type} [FloatOps F] (main_arg2 : IVec S256x32 1) (main_arg3 : IVec S256x32 1) (main_arg8 : FVec F S256x32x64x3 .f32) (main_arg9 : FVec F S256x32x64x3 .f32) (main_v0 : FVec F S3x3 .f32) (main_v18 : FVec F S256x32x32 .f32) (main_v20 : FVec F S256x32x32 .f32) : IVec S3x3 1 × IVec S256x32x64x3 1 × IVec S256x32x64x3 1 × IVec S256x32x32x64 1 :=
  let main_v21 : FVec F S256x32x32 .f32 := subf main_v18 main_v20
  let main_v22 : IVec S256x32x1 1 := broadcastInDim S256x32x1 ![0, 1] bcast_S256x32_S256x32x1_0_1 main_arg2
  let main_v23 : IVec S256x1x32 1 := broadcastInDim S256x1x32 ![0, 2] bcast_S256x32_S256x1x32_0_2 main_arg3
  let main_v24 : IVec S256x32x32 1 := broadcastInDim S256x32x32 ![0, 1, 2] bcast_S256x32x1_S256x32x32_0_1_2 main_v22
  let main_v25 : IVec S256x32x32 1 := broadcastInDim S256x32x32 ![0, 1, 2] bcast_S256x1x32_S256x32x32_0_1_2 main_v23
  let main_v26 : IVec S256x32x32 1 := andi main_v24 main_v25
  let main_cst_2 : FVec F S_ .f32 := constant S_ .f32 0x40C80000#32
  let main_v27 : FVec F S256x32x32 .f32 := broadcastInDim S256x32x32 ![] bcast_S_S256x32x32 main_cst_2
  let main_v28 : IVec S256x32x32 1 := cmpf .ogt main_v21 main_v27
  let main_v29 : IVec S256x32x32 1 := andi main_v28 main_v26
  let main_v30 : FVec F S256x32x64x3 .f32 := (fun l r => Host.dotGeneral dot_S256x32x64x3_S3x3_S256x32x64x3_3_1_012_0_n_n none l r) main_arg9 main_v0
  let main_v31 : FVec F S256x32x64x3 .f32 := mulf main_arg8 main_arg8
  let main_cst_3 : FVec F S_ .f32 := constant S_ .f32 0x00000000#32
  let main_v32 : FVec F S256x32x64 .f32 := (fun x v => Host.reduceAdd x v reducesTo_S256x32x64x3_S256x32x64_d3 h_S_) main_v31 main_cst_3
  let main_v33 : FVec F S256x32x64x3 .f32 := mulf main_v30 main_v30
  let main_cst_4 : FVec F S_ .f32 := constant S_ .f32 0x00000000#32
  let main_v34 : FVec F S256x32x64 .f32 := (fun x v => Host.reduceAdd x v reducesTo_S256x32x64x3_S256x32x64_d3 h_S_) main_v33 main_cst_4
  let main_v35 : FVec F S256x64x32x32 .f32 := (fun l r => Host.dotGeneral dot_S256x32x64x3_S256x32x64x3_S256x64x32x32_3_3_1_1_02_02 none l r) main_v30 main_arg8
  let main_v36 : FVec F S256x32x32x64 .f32 := (transpose S256x32x32x64 [0, 3, 2, 1] · transposes_S256x64x32x32_S256x32x32x64_0_3_2_1) main_v35
  let main_v37 : FVec F S256x32x1x64 .f32 := broadcastInDim S256x32x1x64 ![0, 1, 3] bcast_S256x32x64_S256x32x1x64_0_1_3 main_v32
  let main_v38 : FVec F S256x1x32x64 .f32 := broadcastInDim S256x1x32x64 ![0, 2, 3] bcast_S256x32x64_S256x1x32x64_0_2_3 main_v34
  let main_v39 : FVec F S256x32x32x64 .f32 := broadcastInDim S256x32x32x64 ![0, 1, 2, 3] bcast_S256x32x1x64_S256x32x32x64_0_1_2_3 main_v37
  let main_v40 : FVec F S256x32x32x64 .f32 := broadcastInDim S256x32x32x64 ![0, 1, 2, 3] bcast_S256x1x32x64_S256x32x32x64_0_1_2_3 main_v38
  let main_v41 : FVec F S256x32x32x64 .f32 := addf main_v39 main_v40
  fn_part2 (F := F) main_arg8 main_arg9 main_v0 main_v29 main_v36 main_v41

def fn {F : FTy → Type} [FloatOps F] (main_arg0 : FVec F S256x32x3 .f32) (main_arg1 : FVec F S256x32x3 .f32) (main_arg2 : IVec S256x32 1) (main_arg3 : IVec S256x32 1) (main_arg4 : FVec F S256x32 .f32) (main_arg5 : FVec F S256x32 .f32) (main_arg6 : FVec F S256x32x32 .f32) (main_arg7 : FVec F S4x4 .f32) (main_arg8 : FVec F S256x32x64x3 .f32) (main_arg9 : FVec F S256x32x64x3 .f32) : IVec S3x3 1 × IVec S256x32x64x3 1 × IVec S256x32x64x3 1 × IVec S256x32x32x64 1 :=
  let main_v0 : FVec F S3x3 .f32 := (extractStridedSlice S3x3 ![0, 0] · slices_S4x4_S3x3_0_0) main_arg7
  let main_v1 : FVec F S3x3 .f32 := (extractStridedSlice S3x3 ![0, 0] · slices_S4x4_S3x3_0_0) main_arg7
  let main_v2 : FVec F S3x1 .f32 := (extractStridedSlice S3x1 ![0, 3] · slices_S4x4_S3x1_0_3) main_arg7
  let main_v3 : FVec F S3 .f32 := shapeCast S3 main_v2 shapeCasts_S3x1_S3
  let main_v4 : FVec F S3x3 .f32 := (transpose S3x3 [1, 0] · transposes_S3x3_S3x3_1_0) main_v1
  let main_v5 : FVec F S256x32x3 .f32 := (fun l r => Host.dotGeneral dot_S256x32x3_S3x3_S256x32x3_2_0_01_1_n_n none l r) main_arg1 main_v4
  let main_v6 : FVec F S1x1x3 .f32 := broadcastInDim S1x1x3 ![2] bcast_S3_S1x1x3_2 main_v3
  let main_v7 : FVec F S256x32x3 .f32 := broadcastInDim S256x32x3 ![0, 1, 2] bcast_S1x1x3_S256x32x3_0_1_2 main_v6
  let main_v8 : FVec F S256x32x3 .f32 := addf main_v5 main_v7
  let main_v9 : FVec F S256x32x32 .f32 := (fun l r => Host.dotGeneral dot_S256x32x3_S256x32x3_S256x32x32_2_2_1_1_0_0 none l r) main_arg0 main_v8
  let main_v10 : FVec F S256x32x3 .f32 := mulf main_arg0 main_arg0
  let main_cst : FVec F S_ .f32 := constant S_ .f32 0x00000000#32
  let main_v11 : FVec F S256x32 .f32 := (fun x v => Host.reduceAdd x v reducesTo_S256x32x3_S256x32_d2 h_S_) main_v10 main_cst
  let main_v12 : FVec F S256x32x1 .f32 := broadcastInDim S256x32x1 ![0, 1] bcast_S256x32_S256x32x1_0_1 main_v11
  let main_v13 : FVec F S256x32x3 .f32 := mulf main_v8 main_v8
  let main_cst_0 : FVec F S_ .f32 := constant S_ .f32 0x00000000#32
  let main_v14 : FVec F S256x32 .f32 := (fun x v => Host.reduceAdd x v reducesTo_S256x32x3_S256x32_d2 h_S_) main_v13 main_cst_0
  let main_v15 : FVec F S256x1x32 .f32 := broadcastInDim S256x1x32 ![0, 2] bcast_S256x32_S256x1x32_0_2 main_v14
  let main_v16 : FVec F S256x32x32 .f32 := broadcastInDim S256x32x32 ![0, 1, 2] bcast_S256x32x1_S256x32x32_0_1_2 main_v12
  let main_v17 : FVec F S256x32x32 .f32 := broadcastInDim S256x32x32 ![0, 1, 2] bcast_S256x1x32_S256x32x32_0_1_2 main_v15
  let main_v18 : FVec F S256x32x32 .f32 := addf main_v16 main_v17
  let main_cst_1 : FVec F S_ .f32 := constant S_ .f32 0x40000000#32
  let main_v19 : FVec F S256x32x32 .f32 := broadcastInDim S256x32x32 ![] bcast_S_S256x32x32 main_cst_1
  let main_v20 : FVec F S256x32x32 .f32 := mulf main_v19 main_v9
  fn_part1 (F := F) main_arg2 main_arg3 main_arg8 main_arg9 main_v0 main_v18 main_v20
-- ==== Kernel.lean ====
abbrev S256x32x3 : Shape := ⟨3, ![256, 32, 3]⟩
abbrev S256x32 : Shape := ⟨2, ![256, 32]⟩
abbrev S256x32x32 : Shape := ⟨3, ![256, 32, 32]⟩
abbrev S4x4 : Shape := ⟨2, ![4, 4]⟩
abbrev S256x32x64x3 : Shape := ⟨4, ![256, 32, 64, 3]⟩
abbrev S3x256x32 : Shape := ⟨3, ![3, 256, 32]⟩
abbrev S3x128x2x32 : Shape := ⟨4, ![3, 128, 2, 32]⟩
abbrev S128x2x32 : Shape := ⟨3, ![128, 2, 32]⟩
abbrev S128x2x32x32 : Shape := ⟨4, ![128, 2, 32, 32]⟩
abbrev S3x256x32x64 : Shape := ⟨4, ![3, 256, 32, 64]⟩
abbrev S3x128x2x32x64 : Shape := ⟨5, ![3, 128, 2, 32, 64]⟩
abbrev S16x128 : Shape := ⟨2, ![16, 128]⟩
abbrev S3x16x2x32 : Shape := ⟨4, ![3, 16, 2, 32]⟩
abbrev S16x2x32 : Shape := ⟨3, ![16, 2, 32]⟩
abbrev S16x2x32x32 : Shape := ⟨4, ![16, 2, 32, 32]⟩
abbrev S3x16x2x32x64 : Shape := ⟨5, ![3, 16, 2, 32, 64]⟩
abbrev S1x1 : Shape := ⟨2, ![1, 1]⟩
abbrev S1x16x2x32 : Shape := ⟨4, ![1, 16, 2, 32]⟩
abbrev S16x2x32x1 : Shape := ⟨4, ![16, 2, 32, 1]⟩
abbrev S16x2x1x32 : Shape := ⟨4, ![16, 2, 1, 32]⟩
abbrev S1x16x2x32x32 : Shape := ⟨5, ![1, 16, 2, 32, 32]⟩
abbrev S1 : Shape := ⟨1, ![1]⟩
abbrev S1x1x1x1x1 : Shape := ⟨5, ![1, 1, 1, 1, 1]⟩
abbrev S1x1x1x1 : Shape := ⟨4, ![1, 1, 1, 1]⟩
abbrev S1x16x1x32x64 : Shape := ⟨5, ![1, 16, 1, 32, 64]⟩
abbrev S16x32x64 : Shape := ⟨3, ![16, 32, 64]⟩
abbrev S16x32x128 : Shape := ⟨3, ![16, 32, 128]⟩
abbrev S16x32x1x128 : Shape := ⟨4, ![16, 32, 1, 128]⟩
abbrev S16x1x32x128 : Shape := ⟨4, ![16, 1, 32, 128]⟩
abbrev S16x32x32x128 : Shape := ⟨4, ![16, 32, 32, 128]⟩
abbrev S16x1024x128 : Shape := ⟨3, ![16, 1024, 128]⟩
abbrev S16x2x1024 : Shape := ⟨3, ![16, 2, 1024]⟩
abbrev S16x2x128 : Shape := ⟨3, ![16, 2, 128]⟩
abbrev S1x16x2x128 : Shape := ⟨4, ![1, 16, 2, 128]⟩
abbrev S1x128 : Shape := ⟨2, ![1, 128]⟩
abbrev S16x1 : Shape := ⟨2, ![16, 1]⟩
abbrev S16 : Shape := ⟨1, ![16]⟩
abbrev S_ : Shape := ⟨0, ![]⟩

abbrev nBuf : Space → Nat
  | .hbm => 78
  | .vmem => 19
  | .smem => 1
  | _ => 0

abbrev bufTy : (tb : Table) → Fin (tcTables nBuf tb) → BufTy
  | .hbm, ⟨0, _⟩ => ⟨S256x32x3, .f32⟩
  | .hbm, ⟨1, _⟩ => ⟨S256x32x3, .f32⟩
  | .hbm, ⟨2, _⟩ => ⟨S256x32, .i1⟩
  | .hbm, ⟨3, _⟩ => ⟨S256x32, .i1⟩
  | .hbm, ⟨4, _⟩ => ⟨S256x32, .f32⟩
  | .hbm, ⟨5, _⟩ => ⟨S256x32, .f32⟩
  | .hbm, ⟨6, _⟩ => ⟨S256x32x32, .f32⟩
  | .hbm, ⟨7, _⟩ => ⟨S4x4, .f32⟩
  | .hbm, ⟨8, _⟩ => ⟨S256x32x64x3, .f32⟩
  | .hbm, ⟨9, _⟩ => ⟨S256x32x64x3, .f32⟩
  | .hbm, ⟨10, _⟩ => ⟨S3x256x32, .f32⟩
  | .hbm, ⟨11, _⟩ => ⟨S3x128x2x32, .f32⟩
  | .hbm, ⟨12, _⟩ => ⟨S3x256x32, .f32⟩
  | .hbm, ⟨13, _⟩ => ⟨S3x128x2x32, .f32⟩
  | .hbm, ⟨14, _⟩ => ⟨S256x32, .f32⟩
  | .hbm, ⟨15, _⟩ => ⟨S128x2x32, .f32⟩
  | .hbm, ⟨16, _⟩ => ⟨S256x32, .f32⟩
  | .hbm, ⟨17, _⟩ => ⟨S128x2x32, .f32⟩
  | .hbm, ⟨18, _⟩ => ⟨S128x2x32, .f32⟩
  | .hbm, ⟨19, _⟩ => ⟨S128x2x32, .f32⟩
  | .hbm, ⟨20, _⟩ => ⟨S128x2x32x32, .f32⟩
  | .hbm, ⟨21, _⟩ => ⟨S3x256x32x64, .f32⟩
  | .hbm, ⟨22, _⟩ => ⟨S3x128x2x32x64, .f32⟩
  | .hbm, ⟨23, _⟩ => ⟨S3x256x32x64, .f32⟩
  | .hbm, ⟨24, _⟩ => ⟨S3x128x2x32x64, .f32⟩
  | .hbm, ⟨25, _⟩ => ⟨S16x128, .f32⟩
  | .hbm, ⟨26, _⟩ => ⟨S16x1, .f32⟩
  | .hbm, ⟨27, _⟩ => ⟨S16, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S3x16x2x32, .f32⟩
  | .local _ .vmem, ⟨1, _⟩ => ⟨S3x16x2x32, .f32⟩
  | .local _ .vmem, ⟨2, _⟩ => ⟨S3x16x2x32, .f32⟩
  | .local _ .vmem, ⟨3, _⟩ => ⟨S3x16x2x32, .f32⟩
  | .local _ .vmem, ⟨4, _⟩ => ⟨S16x2x32, .f32⟩
  | .local _ .vmem, ⟨5, _⟩ => ⟨S16x2x32, .f32⟩
  | .local _ .vmem, ⟨6, _⟩ => ⟨S16x2x32, .f32⟩
  | .local _ .vmem, ⟨7, _⟩ => ⟨S16x2x32, .f32⟩
  | .local _ .vmem, ⟨8, _⟩ => ⟨S16x2x32, .f32⟩
  | .local _ .vmem, ⟨9, _⟩ => ⟨S16x2x32, .f32⟩
  | .local _ .vmem, ⟨10, _⟩ => ⟨S16x2x32, .f32⟩
  | .local _ .vmem, ⟨11, _⟩ => ⟨S16x2x32, .f32⟩
  | .local _ .vmem, ⟨12, _⟩ => ⟨S16x2x32x32, .f32⟩
  | .local _ .vmem, ⟨13, _⟩ => ⟨S16x2x32x32, .f32⟩
  | .local _ .vmem, ⟨14, _⟩ => ⟨S3x16x2x32x64, .f32⟩
  | .local _ .vmem, ⟨15, _⟩ => ⟨S3x16x2x32x64, .f32⟩
  | .local _ .vmem, ⟨16, _⟩ => ⟨S3x16x2x32x64, .f32⟩
  | .local _ .vmem, ⟨17, _⟩ => ⟨S3x16x2x32x64, .f32⟩
  | .local _ .vmem, ⟨18, _⟩ => ⟨S16x128, .f32⟩
  | .local _ .smem, ⟨0, _⟩ => ⟨S4x4, .f32⟩
  | _, _ => ⟨S256x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_cst_0 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_call0_v0 : Ref sig .tc := ⟨.hbm, 76, rfl⟩
abbrev main_v55 : Ref sig .tc := ⟨.hbm, 77, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x16x2x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16x2x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2x32x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x16x2x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x16x2x32x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S256x32x3 : Shape := ⟨3, ![256, 32, 3]⟩
abbrev S256x32 : Shape := ⟨2, ![256, 32]⟩
abbrev S256x32x32 : Shape := ⟨3, ![256, 32, 32]⟩
abbrev S4x4 : Shape := ⟨2, ![4, 4]⟩
abbrev S256x32x64x3 : Shape := ⟨4, ![256, 32, 64, 3]⟩
abbrev S3x3 : Shape := ⟨2, ![3, 3]⟩
abbrev S3x1 : Shape := ⟨2, ![3, 1]⟩
abbrev S3 : Shape := ⟨1, ![3]⟩
abbrev S1x1x3 : Shape := ⟨3, ![1, 1, 3]⟩
abbrev S_ : Shape := ⟨0, ![]⟩
abbrev S256x32x1 : Shape := ⟨3, ![256, 32, 1]⟩
abbrev S256x1x32 : Shape := ⟨3, ![256, 1, 32]⟩
abbrev S256x32x64 : Shape := ⟨3, ![256, 32, 64]⟩
abbrev S256x64x32x32 : Shape := ⟨4, ![256, 64, 32, 32]⟩
abbrev S256x32x32x64 : Shape := ⟨4, ![256, 32, 32, 64]⟩
abbrev S256x32x1x64 : Shape := ⟨4, ![256, 32, 1, 64]⟩
abbrev S256x1x32x64 : Shape := ⟨4, ![256, 1, 32, 64]⟩
abbrev S256x32x32x1 : Shape := ⟨4, ![256, 32, 32, 1]⟩

abbrev nBuf : Space → Nat
  | .hbm => 202
  | .vmem => 0
  | .smem => 0
  | _ => 0

abbrev hbmTy0_0 (i : Nat) : BufTy := match i % 128 with
  | 0 => ⟨S256x32x3, .f32⟩
  | 1 => ⟨S256x32x3, .f32⟩
  | 2 => ⟨S256x32, .i1⟩
  | 3 => ⟨S256x32, .i1⟩
  | 4 => ⟨S256x32, .f32⟩
  | 5 => ⟨S256x32, .f32⟩
  | 6 => ⟨S256x32x32, .f32⟩
  | 7 => ⟨S4x4, .f32⟩
  | 8 => ⟨S256x32x64x3, .f32⟩
  | 9 => ⟨S256x32x64x3, .f32⟩
  | 10 => ⟨S3x3, .f32⟩
  | 11 => ⟨S3x1, .f32⟩
  | 12 => ⟨S3, .f32⟩
  | 13 => ⟨S3x3, .f32⟩
  | 14 => ⟨S256x32x3, .f32⟩
  | 15 => ⟨S1x1x3, .f32⟩
  | 16 => ⟨S256x32x3, .f32⟩
  | 17 => ⟨S256x32x3, .f32⟩
  | 18 => ⟨S256x32x32, .f32⟩
  | 19 => ⟨S256x32x3, .f32⟩
  | 20 => ⟨S_, .f32⟩
  | 21 => ⟨S256x32, .f32⟩
  | 22 => ⟨S256x32x1, .f32⟩
  | 23 => ⟨S256x32x3, .f32⟩
  | 24 => ⟨S_, .f32⟩
  | 25 => ⟨S256x32, .f32⟩
  | 26 => ⟨S256x1x32, .f32⟩
  | 27 => ⟨S256x32x32, .f32⟩
  | 28 => ⟨S256x32x32, .f32⟩
  | 29 => ⟨S256x32x32, .f32⟩
  | 30 => ⟨S_, .f32⟩
  | 31 => ⟨S256x32x32, .f32⟩
  | 32 => ⟨S256x32x32, .f32⟩
  | 33 => ⟨S256x32x32, .f32⟩
  | 34 => ⟨S256x32x1, .i1⟩
  | 35 => ⟨S256x1x32, .i1⟩
  | 36 => ⟨S256x32x32, .i1⟩
  | 37 => ⟨S256x32x32, .i1⟩
  | 38 => ⟨S256x32x32, .i1⟩
  | 39 => ⟨S_, .f32⟩
  | 40 => ⟨S256x32x32, .f32⟩
  | 41 => ⟨S256x32x32, .i1⟩
  | 42 => ⟨S256x32x32, .i1⟩
  | 43 => ⟨S256x32x32, .i32⟩
  | 44 => ⟨S_, .i32⟩
  | 45 => ⟨S256x32, .i32⟩
  | 46 => ⟨S_, .i32⟩
  | 47 => ⟨S256x32, .i32⟩
  | 48 => ⟨S256x32, .i1⟩
  | 49 => ⟨S256x32, .i1⟩
  | 50 => ⟨S256x32x32, .i32⟩
  | 51 => ⟨S_, .i32⟩
  | 52 => ⟨S256x32, .i32⟩
  | 53 => ⟨S_, .i32⟩
  | 54 => ⟨S256x32, .i32⟩
  | 55 => ⟨S256x32, .i1⟩
  | 56 => ⟨S256x32, .i1⟩
  | 57 => ⟨S_, .f32⟩
  | 58 => ⟨S_, .f32⟩
  | 59 => ⟨S256x32x32, .f32⟩
  | 60 => ⟨S256x32x32, .f32⟩
  | 61 => ⟨S256x32x32, .f32⟩
  | 62 => ⟨S_, .f32⟩
  | 63 => ⟨S_, .f32⟩
  | 64 => ⟨S256x32x32, .f32⟩
  | 65 => ⟨S256x32x32, .f32⟩
  | 66 => ⟨S_, .f32⟩
  | 67 => ⟨S_, .f32⟩
  | 68 => ⟨S256x32x32, .i32⟩
  | 69 => ⟨S_, .i32⟩
  | 70 => ⟨S_, .i32⟩
  | 71 => ⟨S_, .i32⟩
  | 72 => ⟨S_, .i32⟩
  | 73 => ⟨S_, .f32⟩
  | 74 => ⟨S_, .f32⟩
  | 75 => ⟨S_, .f32⟩
  | 76 => ⟨S256x32, .f32⟩
  | 77 => ⟨S256x32, .f32⟩
  | 78 => ⟨S_, .f32⟩
  | 79 => ⟨S_, .f32⟩
  | 80 => ⟨S256x32, .f32⟩
  | 81 => ⟨S256x32, .f32⟩
  | 82 => ⟨S256x32, .f32⟩
  | 83 => ⟨S_, .f32⟩
  | 84 => ⟨S_, .f32⟩
  | 85 => ⟨S256x32, .f32⟩
  | 86 => ⟨S256x32, .f32⟩
  | 87 => ⟨S_, .f32⟩
  | 88 => ⟨S_, .f32⟩
  | 89 => ⟨S256x32, .i32⟩
  | 90 => ⟨S_, .i32⟩
  | 91 => ⟨S_, .i32⟩
  | 92 => ⟨S_, .i32⟩
  | 93 => ⟨S_, .i32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S256x32, .f32⟩
  | 101 => ⟨S256x32, .f32⟩
  | 102 => ⟨S_, .f32⟩
  | 103 => ⟨S_, .f32⟩
  | 104 => ⟨S256x32, .f32⟩
  | 105 => ⟨S256x32, .f32⟩
  | 106 => ⟨S256x32, .f32⟩
  | 107 => ⟨S_, .f32⟩
  | 108 => ⟨S_, .f32⟩
  | 109 => ⟨S256x32, .f32⟩
  | 110 => ⟨S256x32, .f32⟩
  | 111 => ⟨S_, .f32⟩
  | 112 => ⟨S_, .f32⟩
  | 113 => ⟨S256x32, .i32⟩
  | 114 => ⟨S_, .i32⟩
  | 115 => ⟨S_, .i32⟩
  | 116 => ⟨S_, .i32⟩
  | 117 => ⟨S_, .i32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S256x32x32, .f32⟩
  | 126 => ⟨S256x32x32, .i1⟩
  | 127 => ⟨S256x32x32, .i1⟩
  | _ => ⟨S256x32x3, .f32⟩

abbrev hbmTy0_1 (i : Nat) : BufTy := match i % 128 with
  | 0 => ⟨S3x3, .f32⟩
  | 1 => ⟨S256x32x64x3, .f32⟩
  | 2 => ⟨S256x32x64x3, .f32⟩
  | 3 => ⟨S_, .f32⟩
  | 4 => ⟨S256x32x64, .f32⟩
  | 5 => ⟨S256x32x64x3, .f32⟩
  | 6 => ⟨S_, .f32⟩
  | 7 => ⟨S256x32x64, .f32⟩
  | 8 => ⟨S256x64x32x32, .f32⟩
  | 9 => ⟨S256x32x32x64, .f32⟩
  | 10 => ⟨S256x32x1x64, .f32⟩
  | 11 => ⟨S256x1x32x64, .f32⟩
  | 12 => ⟨S256x32x32x64, .f32⟩
  | 13 => ⟨S256x32x32x64, .f32⟩
  | 14 => ⟨S256x32x32x64, .f32⟩
  | 15 => ⟨S_, .f32⟩
  | 16 => ⟨S256x32x32x64, .f32⟩
  | 17 => ⟨S256x32x32x64, .f32⟩
  | 18 => ⟨S256x32x32x64, .f32⟩
  | 19 => ⟨S_, .f32⟩
  | 20 => ⟨S256x32x32x64, .f32⟩
  | 21 => ⟨S256x32x32x64, .f32⟩
  | 22 => ⟨S256x32x32x64, .f32⟩
  | 23 => ⟨S256x32x32, .i32⟩
  | 24 => ⟨S_, .i32⟩
  | 25 => ⟨S_, .i32⟩
  | 26 => ⟨S_, .i32⟩
  | 27 => ⟨S_, .i32⟩
  | 28 => ⟨S_, .f32⟩
  | 29 => ⟨S256x32x32x64, .f32⟩
  | 30 => ⟨S256x32x32x64, .f32⟩
  | 31 => ⟨S_, .f32⟩
  | 32 => ⟨S256x32x32x64, .f32⟩
  | 33 => ⟨S256x32x32x64, .f32⟩
  | 34 => ⟨S256x32x32x1, .i1⟩
  | 35 => ⟨S256x32x32x1, .f32⟩
  | 36 => ⟨S256x32x32x64, .f32⟩
  | 37 => ⟨S256x32x32x64, .f32⟩
  | 38 => ⟨S_, .f32⟩
  | 39 => ⟨S_, .f32⟩
  | 40 => ⟨S_, .i32⟩
  | 41 => ⟨S_, .i32⟩
  | 42 => ⟨S_, .f32⟩
  | 43 => ⟨S_, .f32⟩
  | 44 => ⟨S256x32x32, .i32⟩
  | 45 => ⟨S_, .i32⟩
  | 46 => ⟨S_, .i32⟩
  | 47 => ⟨S_, .i32⟩
  | 48 => ⟨S_, .i32⟩
  | 49 => ⟨S_, .f32⟩
  | 50 => ⟨S256x32x32x64, .f32⟩
  | 51 => ⟨S256x32x32x64, .f32⟩
  | 52 => ⟨S_, .f32⟩
  | 53 => ⟨S256x32x32x64, .f32⟩
  | 54 => ⟨S256x32x32x64, .f32⟩
  | 55 => ⟨S256x32x32x1, .i1⟩
  | 56 => ⟨S256x32x32x1, .f32⟩
  | 57 => ⟨S256x32x32x64, .f32⟩
  | 58 => ⟨S256x32x32x64, .f32⟩
  | 59 => ⟨S_, .f32⟩
  | 60 => ⟨S_, .f32⟩
  | 61 => ⟨S_, .i32⟩
  | 62 => ⟨S_, .i32⟩
  | 63 => ⟨S_, .f32⟩
  | 64 => ⟨S_, .f32⟩
  | 65 => ⟨S256x32x32, .i32⟩
  | 66 => ⟨S_, .i32⟩
  | 67 => ⟨S_, .i32⟩
  | 68 => ⟨S_, .i32⟩
  | 69 => ⟨S_, .i1⟩
  | 70 => ⟨S_, .f32⟩
  | 71 => ⟨S_, .f32⟩
  | 72 => ⟨S_, .f32⟩
  | 73 => ⟨S_, .f32⟩
  | _ => ⟨S256x32x3, .f32⟩

abbrev hbmTy (i : Nat) : BufTy := match i / 128 with
  | 0 => hbmTy0_0 i
  | 1 => hbmTy0_1 i
  | _ => ⟨S256x32x3, .f32⟩

abbrev bufTy : (tb : Table) → Fin (tcTables nBuf tb) → BufTy
  | .hbm, ⟨i, _⟩ => hbmTy i
  | _, _ => ⟨S256x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_call2_v0 : Ref sig .tc := ⟨.hbm, 79, rfl⟩
abbrev main_call2_v1 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_call3_v0 : Ref sig .tc := ⟨.hbm, 84, rfl⟩
abbrev main_call3_v1 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_c_15 : Ref sig .tc := ⟨.hbm, 90, rfl⟩
abbrev main_v55 : Ref sig .tc := ⟨.hbm, 91, rfl⟩
abbrev main_c_16 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_cst_18 : Ref sig .tc := ⟨.hbm, 99, rfl⟩
abbrev main_v61 : Ref sig .tc := ⟨.hbm, 100, rfl⟩
abbrev main_v62 : Ref sig .tc := ⟨.hbm, 101, rfl⟩
abbrev main_cst_19 : Ref sig .tc := ⟨.hbm, 102, rfl⟩
abbrev main_call4_v0 : Ref sig .tc := ⟨.hbm, 103, rfl⟩
abbrev main_call4_v1 : Ref sig .tc := ⟨.hbm, 104, rfl⟩
abbrev main_v63 : Ref sig .tc := ⟨.hbm, 105, rfl⟩
abbrev main_v64 : Ref sig .tc := ⟨.hbm, 106, rfl⟩
abbrev main_cst_20 : Ref sig .tc := ⟨.hbm, 107, rfl⟩
abbrev main_call5_v0 : Ref sig .tc := ⟨.hbm, 108, rfl⟩
abbrev main_call5_v1 : Ref sig .tc := ⟨.hbm, 109, rfl⟩
abbrev main_v65 : Ref sig .tc := ⟨.hbm, 110, rfl⟩
abbrev main_cst_21 : Ref sig .tc := ⟨.hbm, 111, rfl⟩
abbrev main_v66 : Ref sig .tc := ⟨.hbm, 112, rfl⟩
abbrev main_v67 : Ref sig .tc := ⟨.hbm, 113, rfl⟩
abbrev main_c_22 : Ref sig .tc := ⟨.hbm, 114, rfl⟩
abbrev main_v68 : Ref sig .tc := ⟨.hbm, 115, rfl⟩
abbrev main_c_23 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_24 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_25 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_26 : Ref sig .tc := ⟨.hbm, 131, rfl⟩
abbrev main_v81 : Ref sig .tc := ⟨.hbm, 132, rfl⟩
abbrev main_v82 : Ref sig .tc := ⟨.hbm, 133, rfl⟩
abbrev main_cst_27 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_28 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_29 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_30 : Ref sig .tc := ⟨.hbm, 152, rfl⟩
abbrev main_v98 : Ref sig .tc := ⟨.hbm, 153, rfl⟩
abbrev main_c_31 : Ref sig .tc := ⟨.hbm, 154, rfl⟩
abbrev main_v99 : Ref sig .tc := ⟨.hbm, 155, rfl⟩
abbrev main_cst_32 : Ref sig .tc := ⟨.hbm, 156, rfl⟩
abbrev main_v100 : Ref sig .tc := ⟨.hbm, 157, rfl⟩
abbrev main_v101 : Ref sig .tc := ⟨.hbm, 158, rfl⟩
abbrev main_call6_cst : Ref sig .tc := ⟨.hbm, 159, rfl⟩
abbrev main_call6_v0 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_33 : Ref sig .tc := ⟨.hbm, 166, rfl⟩
abbrev main_v107 : Ref sig .tc := ⟨.hbm, 167, rfl⟩
abbrev main_c_34 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_c_35 : Ref sig .tc := ⟨.hbm, 173, rfl⟩
abbrev main_v112 : Ref sig .tc := ⟨.hbm, 174, rfl⟩
abbrev main_c_36 : Ref sig .tc := ⟨.hbm, 175, rfl⟩
abbrev main_v113 : Ref sig .tc := ⟨.hbm, 176, rfl⟩
abbrev main_cst_37 : Ref sig .tc := ⟨.hbm, 177, rfl⟩
abbrev main_v114 : Ref sig .tc := ⟨.hbm, 178, rfl⟩
abbrev main_v115 : Ref sig .tc := ⟨.hbm, 179, rfl⟩
abbrev main_call7_cst : Ref sig .tc := ⟨.hbm, 180, rfl⟩
abbrev main_call7_v0 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_cst_38 : Ref sig .tc := ⟨.hbm, 187, rfl⟩
abbrev main_v121 : Ref sig .tc := ⟨.hbm, 188, rfl⟩
abbrev main_c_39 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_c_40 : Ref sig .tc := ⟨.hbm, 194, rfl⟩
abbrev main_v126 : Ref sig .tc := ⟨.hbm, 195, rfl⟩
abbrev main_c_41 : Ref sig .tc := ⟨.hbm, 196, rfl⟩
abbrev main_v127 : Ref sig .tc := ⟨.hbm, 197, rfl⟩
abbrev main_v128 : Ref sig .tc := ⟨.hbm, 198, rfl⟩
abbrev main_cst_42 : Ref sig .tc := ⟨.hbm, 199, rfl⟩
abbrev main_call8_v0 : Ref sig .tc := ⟨.hbm, 200, rfl⟩
abbrev main_v129 : Ref sig .tc := ⟨.hbm, 201, rfl⟩

abbrev nD : Nat := 1
abbrev τ : Topo := Topo.v7x

variable {F : FTy → Type} [FloatOps F]
-- ==== Proof.Spec.lean ====
/-
  The loss of one patch pair, in plain mathematics over the extended reals: the two sets of 32 points, which of their pairs
  are near (and so should match) and which are far, the log scores of the matches, the points that match nothing, and the
  hinge terms of the features' distances. Both programs are read as sums of these over the 256 patch pairs.
-/
module

public import Idealize.ShloMosaic.PureOps.Ideal
public import Idealize.ShloMosaic.Lib.Pointwise

@[expose] public section

noncomputable section

namespace Cert.Match

open Idealize.ShloMosaic
open scoped Classical

/-- The squared radius within which points match. This and the next seven are the programs' constants. -/
abbrev nearSq : EReal := Ideal.ofBits .f32 0x40800000#32
/-- The squared radius beyond which points mismatch. -/
abbrev farSq : EReal := Ideal.ofBits .f32 0x40C80000#32
/-- The margin of the matches. -/
abbrev nearMargin : EReal := Ideal.ofBits .f32 0x3DCCCCCD#32
/-- The margin of the mismatches. -/
abbrev farMargin : EReal := Ideal.ofBits .f32 0x3FB33333#32
/-- The factor two. -/
abbrev two : EReal := Ideal.ofBits .f32 0x40000000#32
/-- One half. -/
abbrev half : EReal := Ideal.ofBits .f32 0x3F000000#32
/-- The number of channels. -/
abbrev channels : EReal := Ideal.ofBits .f32 0x42800000#32
/-- The least squared distance of features. -/
abbrev leastSq : EReal := Ideal.ofBits .f32 0x2B8CBCCC#32

/-- One patch pair: the transform, the reference and source points, their masks (one bit each), their scores, the matching
    scores, and the features (64 channels of 3 coordinates). -/
structure Patch where
  T : Fin 4 → Fin 4 → EReal
  p : Fin 32 → Fin 3 → EReal
  s : Fin 32 → Fin 3 → EReal
  mp : Fin 32 → BitVec 1
  ms : Fin 32 → BitVec 1
  u : Fin 32 → EReal
  w : Fin 32 → EReal
  M : Fin 32 → Fin 32 → EReal
  f : Fin 32 → Fin 64 → Fin 3 → EReal
  h : Fin 32 → Fin 64 → Fin 3 → EReal

/-- Patch pair `n` of the ten argument arrays. -/
def pair (a0 a1 : (⟨3, ![256, 32, 3]⟩ : Shape).Idx → EReal) (a2 a3 : (⟨2, ![256, 32]⟩ : Shape).Idx → BitVec 1)
    (a4 a5 : (⟨2, ![256, 32]⟩ : Shape).Idx → EReal) (a6 : (⟨3, ![256, 32, 32]⟩ : Shape).Idx → EReal)
    (a7 : (⟨2, ![4, 4]⟩ : Shape).Idx → EReal) (a8 a9 : (⟨4, ![256, 32, 64, 3]⟩ : Shape).Idx → EReal) (n : Fin 256) : Patch where
  T l k := a7 (ix2 l k)
  p i l := a0 (ix3 n i l)
  s i l := a1 (ix3 n i l)
  mp i := a2 (ix2 n i)
  ms i := a3 (ix2 n i)
  u i := a4 (ix2 n i)
  w i := a5 (ix2 n i)
  M i j := a6 (ix3 n i j)
  f i k l := a8 (ix4 n i k l)
  h i k l := a9 (ix4 n i k l)

namespace Patch

variable (P : Patch)

/-- Coordinate `l` of the source point `j` under the transform. -/
def moved (j : Fin 32) (l : Fin 3) : EReal :=
  P.s j 0 * P.T l.castSucc 0 + P.s j 1 * P.T l.castSucc 1 + P.s j 2 * P.T l.castSucc 2 + P.T l.castSucc 3

/-- The squared distance of reference point `i` from moved source point `j`, by `a² + b² - 2ab`. -/
def dist (i j : Fin 32) : EReal :=
  (P.p i 0 * P.p i 0 + P.p i 1 * P.p i 1 + P.p i 2 * P.p i 2)
    + (P.moved j 0 * P.moved j 0 + P.moved j 1 * P.moved j 1 + P.moved j 2 * P.moved j 2)
    - two * (P.p i 0 * P.moved j 0 + P.p i 1 * P.moved j 1 + P.p i 2 * P.moved j 2)

/-- The pair `i`, `j` is a true match: both points valid, and near. -/
def near (i j : Fin 32) : Prop := P.dist i j < nearSq ∧ P.mp i = 1#1 ∧ P.ms j = 1#1
/-- The pair `i`, `j` is a true mismatch: both points valid, and far. -/
def far (i j : Fin 32) : Prop := farSq < P.dist i j ∧ P.mp i = 1#1 ∧ P.ms j = 1#1
/-- The valid reference point `i` matches nothing. -/
def loneRef (i : Fin 32) : Prop := (∀ j, ¬P.near i j) ∧ P.mp i = 1#1
/-- The valid source point `j` matches nothing. -/
def loneSrc (j : Fin 32) : Prop := (∀ i, ¬P.near i j) ∧ P.ms j = 1#1

/-- The log scores of the matches. -/
def logMatch : EReal := ∑ i, ∑ j, if P.near i j then Ideal.log (P.M i j) else 0
/-- The number of matches. -/
def numNear : EReal := ∑ i, ∑ j, if P.near i j then 1 else 0
/-- The log scores of the lone reference points. -/
def logRef : EReal := ∑ i, if P.loneRef i then Ideal.log (1 - P.u i) else 0
/-- The number of lone reference points. -/
def numRef : EReal := ∑ i, if P.loneRef i then 1 else 0
/-- The log scores of the lone source points. -/
def logSrc : EReal := ∑ j, if P.loneSrc j then Ideal.log (1 - P.w j) else 0
/-- The number of lone source points. -/
def numSrc : EReal := ∑ j, if P.loneSrc j then 1 else 0
/-- The number of mismatches. -/
def numFar : EReal := ∑ i, ∑ j, if P.far i j then 1 else 0

/-- Coordinate `l` of the source feature `j`, channel `k`, rotated. -/
def rot (j : Fin 32) (k : Fin 64) (l : Fin 3) : EReal :=
  P.h j k 0 * P.T l.castSucc 0 + P.h j k 1 * P.T l.castSucc 1 + P.h j k 2 * P.T l.castSucc 2

/-- The features' squared distance from the differences of coordinates, -/
def sqDiff (i j : Fin 32) (k : Fin 64) : EReal :=
  (P.f i k 0 - P.rot j k 0) * (P.f i k 0 - P.rot j k 0) + (P.f i k 1 - P.rot j k 1) * (P.f i k 1 - P.rot j k 1)
    + (P.f i k 2 - P.rot j k 2) * (P.f i k 2 - P.rot j k 2)

/-- and by `a² + b² - 2ab`. -/
def sqDots (i j : Fin 32) (k : Fin 64) : EReal :=
  (P.f i k 0 * P.f i k 0 + P.f i k 1 * P.f i k 1 + P.f i k 2 * P.f i k 2)
    + (P.rot j k 0 * P.rot j k 0 + P.rot j k 1 * P.rot j k 1 + P.rot j k 2 * P.rot j k 2)
    - two * (P.f i k 0 * P.rot j k 0 + P.f i k 1 * P.rot j k 1 + P.f i k 2 * P.rot j k 2)

/-- The distance as the square times the reciprocal root, -/
def normDiff (i j : Fin 32) (k : Fin 64) : EReal := P.sqDiff i j k * Ideal.rsqrt (max (P.sqDiff i j k) leastSq)
/-- and as the root. -/
def normDots (i j : Fin 32) (k : Fin 64) : EReal := Ideal.sqrt (max (P.sqDots i j k) leastSq)

/-- The hinge terms of the matches, a match being nearer than `nearMargin` at no cost, for a given distance of features. -/
def pull (d : Fin 32 → Fin 32 → Fin 64 → EReal) : EReal :=
  ∑ k, ∑ i, ∑ j, if P.near i j then max (d i j k - nearMargin) 0 else 0
/-- The hinge terms of the mismatches, a mismatch being farther than `farMargin` at no cost. -/
def push (d : Fin 32 → Fin 32 → Fin 64 → EReal) : EReal :=
  ∑ k, ∑ i, ∑ j, if P.far i j then max (farMargin - d i j k) 0 else 0

end Patch

end Cert.Match

end
-- ==== Proof.KernelBlock.lean ====
/-
  What one grid point of the kernel computes: the nine scalars it adds into the result block, each as a sum over the block's
  16 x 2 patch pairs of that pair's quantity (Spec.lean).
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Block

open Idealize.ShloMosaic Cert.KernelIdeal Cert.KernelIdeal.Gen Cert.Match
open scoped Classical

/-- The ten input blocks of a grid point. -/
structure Blk where
  x0 : Vec Ideal S4x4 .f32
  x1 : Vec Ideal S3x16x2x32 .f32
  x2 : Vec Ideal S3x16x2x32 .f32
  x3 : Vec Ideal S16x2x32 .f32
  x4 : Vec Ideal S16x2x32 .f32
  x5 : Vec Ideal S16x2x32 .f32
  x6 : Vec Ideal S16x2x32 .f32
  x7 : Vec Ideal S16x2x32x32 .f32
  x8 : Vec Ideal S3x16x2x32x64 .f32
  x9 : Vec Ideal S3x16x2x32x64 .f32

/-- The blocks hold the patch pairs `P b r`, the masks as the numbers 0 and 1. -/
structure Holds (X : Blk) (P : Fin 16 → Fin 2 → Patch) : Prop where
  T : ∀ b r l k, X.x0 (ix2 l k) = (P b r).T l k
  p : ∀ b r i l, X.x1 (ix4 l b r i) = (P b r).p i l
  s : ∀ b r i l, X.x2 (ix4 l b r i) = (P b r).s i l
  mp : ∀ b r i, X.x3 (ix3 b r i) = if (P b r).mp i = 1#1 then 1 else 0
  ms : ∀ b r i, X.x4 (ix3 b r i) = if (P b r).ms i = 1#1 then 1 else 0
  u : ∀ b r i, X.x5 (ix3 b r i) = (P b r).u i
  w : ∀ b r i, X.x6 (ix3 b r i) = (P b r).w i
  M : ∀ b r i j, X.x7 (ix4 b r i j) = (P b r).M i j
  f : ∀ b r i k l, X.x8 (ix5 l b r i k) = (P b r).f i k l
  h : ∀ b r i k l, X.x9 (ix5 l b r i k) = (P b r).h i k l

/-- One entry of the transform lies within it. -/
theorem inbT (l k : Fin 4) : ∀ a, (![l.val, k.val] : Fin 2 → ℕ) a + (![1, 1] : Fin 2 → ℕ) a ≤ S4x4.size a := by
  intro a; fin_cases a <;> simp [S4x4] <;> omega
/-- One coordinate of the points lies within their block. -/
theorem inbP (k : Fin 3) : ∀ a, (![k.val, 0, 0, 0] : Fin 4 → ℕ) a + (![1, 16, 2, 32] : Fin 4 → ℕ) a ≤ S3x16x2x32.size a := by
  intro a; fin_cases a <;> simp [S3x16x2x32] <;> omega
/-- One coordinate of one half of the features lies within their block. -/
theorem inbF (k : Fin 3) (r : Fin 2) :
    ∀ a, (![k.val, 0, r.val, 0, 0] : Fin 5 → ℕ) a + (![1, 16, 1, 32, 64] : Fin 5 → ℕ) a ≤ S3x16x2x32x64.size a := by
  intro a; fin_cases a <;> simp [S3x16x2x32x64] <;> omega

/-- Entry `l`, `k` of the transform. -/
def tr (x : Vec Ideal S4x4 .f32) (l k : Fin 4) : EReal :=
  View.ld x (Rect.unit ![l.val, k.val] ![1, 1] (inbT l k)) (Shape.Idx.first (s := ⟨2, ![1, 1]⟩) (by decide))
/-- Coordinate `k` of a set of points. -/
def pt (x : Vec Ideal S3x16x2x32 .f32) (k : Fin 3) : Vec Ideal S1x16x2x32 .f32 :=
  View.ld x (Rect.unit ![k.val, 0, 0, 0] ![1, 16, 2, 32] (inbP k))
/-- Coordinate `k` of the features of half `r`. -/
def ft (x : Vec Ideal S3x16x2x32x64 .f32) (k : Fin 3) (r : Fin 2) : Vec Ideal S1x16x1x32x64 .f32 :=
  View.ld x (Rect.unit ![k.val, 0, r.val, 0, 0] ![1, 16, 1, 32, 64] (inbF k r))

/-- Reading one entry of the transform. -/
theorem tr_eq (x : Vec Ideal S4x4 .f32) (l k : Fin 4) : tr x l k = x (ix2 l k) := by
  unfold tr
  pointwise
/-- Reading one coordinate of a point. -/
theorem pt_apply (x : Vec Ideal S3x16x2x32 .f32) (k : Fin 3) (b : Fin 16) (r : Fin 2) (i : Fin 32) :
    pt x k (ix4 0 b r i) = x (ix4 k b r i) := by
  unfold pt
  pointwise
/-- Reading one coordinate of a feature. -/
theorem ft_apply (x : Vec Ideal S3x16x2x32x64 .f32) (k : Fin 3) (r : Fin 2) (b : Fin 16) (i : Fin 32) (c : Fin 64) :
    ft x k r (ix5 0 b 0 i c) = x (ix5 k b r i c) := by
  unfold ft
  pointwise

namespace Blk

variable (X : Blk)

/-- The third coordinate of the moved source points. This and the next five are what the printed text computes before it compares distances. -/
abbrev v53 : FVec Ideal S16x2x32 .f32 :=
  k0_pay12 (tr X.x0 2 0) (tr X.x0 2 1) (tr X.x0 2 2) (tr X.x0 2 3) (pt X.x2 0) (pt X.x2 1) (pt X.x2 2)
/-- The squared lengths of the reference points. -/
abbrev v58 : FVec Ideal S16x2x32 .f32 := k0_pay13 (k0_pay4 (pt X.x1 0)) (k0_pay5 (pt X.x1 1)) (k0_pay6 (pt X.x1 2))
/-- The squared lengths of the moved source points. -/
abbrev v63 : FVec Ideal S16x2x32 .f32 :=
  k0_pay14 (tr X.x0 0 0) (tr X.x0 0 1) (tr X.x0 0 2) (tr X.x0 1 0) (tr X.x0 1 1) (tr X.x0 1 2) (tr X.x0 2 0) (tr X.x0 2 1) (tr X.x0 2 2)
    (tr X.x0 0 3) (tr X.x0 1 3) (tr X.x0 2 3) (pt X.x2 0) (pt X.x2 1) (pt X.x2 2)
/-- The products of the first coordinates. -/
abbrev v68 : FVec Ideal S16x2x32x32 .f32 :=
  k0_pay15 (tr X.x0 0 0) (tr X.x0 0 1) (tr X.x0 0 2) (tr X.x0 0 3) (k0_pay4 (pt X.x1 0)) (pt X.x2 0) (pt X.x2 1) (pt X.x2 2)
/-- The second coordinate of the reference points, by row. -/
abbrev v69 : FVec Ideal S16x2x32x1 .f32 := k0_pay16 (k0_pay5 (pt X.x1 1))
/-- The second coordinate of the moved source points, by column. -/
abbrev v70 : FVec Ideal S16x2x1x32 .f32 :=
  k0_pay17 (tr X.x0 1 0) (tr X.x0 1 1) (tr X.x0 1 2) (tr X.x0 1 3) (pt X.x2 0) (pt X.x2 1) (pt X.x2 2)

/-- The matches as an array of 0 and 1. -/
def nearMap : FVec Ideal S16x2x32x32 .f32 := k0_pay22 (k0_pay6 (pt X.x1 2)) X.v53 X.v58 X.v63 X.v68 X.v69 X.v70 X.x3 X.x4
/-- The mismatches as an array of 0 and 1. -/
def farMap : FVec Ideal S16x2x32x32 .f32 := k0_pay23 (k0_pay6 (pt X.x1 2)) X.v53 X.v58 X.v63 X.v68 X.v69 X.v70 X.x3 X.x4
/-- The reference points that match nothing, as an array of 0 and 1. -/
def refMap : FVec Ideal S16x2x32 .f32 := k0_pay24 (k0_pay6 (pt X.x1 2)) X.v53 X.v58 X.v63 X.v68 X.v69 X.v70 X.x3 X.x4
/-- Which source points match no reference point, valid or not, as bits. -/
def noRef : IVec S16x2x32 1 := k0_pay25 (k0_pay6 (pt X.x1 2)) X.v53 X.v58 X.v63 X.v68 X.v69 X.v70 X.x3 X.x4
/-- The constant zero. -/
abbrev zero : EReal := Scalar.ofBits (F := Ideal) .f32 0x00000000#32
/-- The source points that match nothing, as an array of 0 and 1. -/
def srcMap : FVec Ideal S16x2x32 .f32 := k0_pay26 (k0_pay20 X.x4) X.noRef zero

/-- The distances of features. -/
def gaps : FVec Ideal S16x32x32x128 .f32 :=
  k0_pay46 (tr X.x0 1 1) (tr X.x0 1 2) (tr X.x0 2 0) (tr X.x0 2 1) (tr X.x0 2 2)
    (k0_pay37 (ft X.x8 0 0) (ft X.x8 0 1)) (k0_pay38 (ft X.x8 1 0) (ft X.x8 1 1)) (k0_pay40 (k0_pay39 (ft X.x8 2 0)) (ft X.x8 2 1))
    (k0_pay41 (ft X.x9 0 0) (ft X.x9 0 1)) (k0_pay42 (ft X.x9 1 0) (ft X.x9 1 1)) (k0_pay43 (ft X.x9 2 0) (ft X.x9 2 1))
    (k0_pay44 (tr X.x0 0 0) (tr X.x0 0 1) (tr X.x0 0 2) (ft X.x9 0 0) (ft X.x9 0 1) (ft X.x9 1 0) (ft X.x9 1 1) (ft X.x9 2 0) (ft X.x9 2 1))
    (k0_pay45 (tr X.x0 1 0) (ft X.x9 0 0) (ft X.x9 0 1))

/-- The hinge terms of the mismatches. -/
def farHinge : FVec Ideal S16x1024x128 .f32 :=
  k0_pay47 (tr X.x0 1 1) (tr X.x0 1 2) (tr X.x0 2 0) (tr X.x0 2 1) (tr X.x0 2 2)
    (k0_pay37 (ft X.x8 0 0) (ft X.x8 0 1)) (k0_pay38 (ft X.x8 1 0) (ft X.x8 1 1)) (k0_pay40 (k0_pay39 (ft X.x8 2 0)) (ft X.x8 2 1))
    (k0_pay41 (ft X.x9 0 0) (ft X.x9 0 1)) (k0_pay42 (ft X.x9 1 0) (ft X.x9 1 1)) (k0_pay43 (ft X.x9 2 0) (ft X.x9 2 1))
    (k0_pay44 (tr X.x0 0 0) (tr X.x0 0 1) (tr X.x0 0 2) (ft X.x9 0 0) (ft X.x9 0 1) (ft X.x9 1 0) (ft X.x9 1 1) (ft X.x9 2 0) (ft X.x9 2 1))
    (k0_pay45 (tr X.x0 1 0) (ft X.x9 0 0) (ft X.x9 0 1))
/-- The sums of the hinge terms of the matches. -/
def nearHinge : FVec Ideal S16x2x128 .f32 :=
  k0_pay49 (tr X.x0 1 1) (tr X.x0 1 2) (tr X.x0 2 0) (tr X.x0 2 1) (tr X.x0 2 2) X.nearMap
    (k0_pay37 (ft X.x8 0 0) (ft X.x8 0 1)) (k0_pay38 (ft X.x8 1 0) (ft X.x8 1 1)) (k0_pay40 (k0_pay39 (ft X.x8 2 0)) (ft X.x8 2 1))
    (k0_pay41 (ft X.x9 0 0) (ft X.x9 0 1)) (k0_pay42 (ft X.x9 1 0) (ft X.x9 1 1)) (k0_pay43 (ft X.x9 2 0) (ft X.x9 2 1))
    (k0_pay44 (tr X.x0 0 0) (tr X.x0 0 1) (tr X.x0 0 2) (ft X.x9 0 0) (ft X.x9 0 1) (ft X.x9 1 0) (ft X.x9 1 1) (ft X.x9 2 0) (ft X.x9 2 1))
    (k0_pay45 (tr X.x0 1 0) (ft X.x9 0 0) (ft X.x9 0 1))

/-- The nine scalars of a grid point, in the order of the rows they are added into. -/
def scal : Fin 9 → EReal :=
  ![k0_pay27 X.nearMap X.x7, k0_pay28 X.nearMap, k0_pay29 X.refMap X.x5, k0_pay30 X.refMap,
    k0_pay34 (k0_pay31 (k0_pay20 X.x4) X.noRef zero) (k0_pay32 X.x6) k0_pay33, k0_pay35 X.srcMap,
    k0_pay51 X.nearHinge, k0_pay52 X.farHinge (k0_pay48 X.farMap), k0_pay36 X.farMap]

variable {X} {P : Fin 16 → Fin 2 → Patch} (H : Holds X P)

include H

/-- The distances of points are those of the patch pair. -/
theorem dist_apply (b : Fin 16) (r : Fin 2) (i j : Fin 32) :
    k0_pay18 (k0_pay6 (pt X.x1 2)) X.v53 X.v58 X.v63 X.v68 X.v69 X.v70 (ix4 b r i j) = (P b r).dist i j := by
  unfold v53 v58 v63 v68 v69 v70
  unfold_payloads
  pointwise
  simp only [tr_eq, pt_apply, H.T b r, H.p, H.s]
  rfl

omit H in
/-- A product of two masks behind a comparison is the one condition they make together. -/
theorem gate (A B C Q : Prop) [Decidable A] [Decidable B] [Decidable C] [Decidable Q] (h : Q ↔ A ∧ B ∧ C) :
    (if A then (if B then (1 : EReal) else 0) * (if C then 1 else 0) else 0) = if Q then 1 else 0 := by
  split_ifs <;> simp_all

/-- The map of matches is 1 at the matches. -/
theorem nearMap_apply (b : Fin 16) (r : Fin 2) (i j : Fin 32) :
    X.nearMap (ix4 b r i j) = if (P b r).near i j then 1 else 0 := by
  unfold nearMap k0_pay22 k0_pay21 k0_pay19 k0_pay20
  pointwise
  simp only [dist_apply H, H.mp, H.ms]
  exact gate _ _ _ _ Iff.rfl

/-- The map of mismatches is 1 at the mismatches. -/
theorem farMap_apply (b : Fin 16) (r : Fin 2) (i j : Fin 32) :
    X.farMap (ix4 b r i j) = if (P b r).far i j then 1 else 0 := by
  unfold farMap k0_pay23 k0_pay21 k0_pay19 k0_pay20
  pointwise
  simp only [dist_apply H, H.mp, H.ms]
  exact gate _ _ _ _ Iff.rfl

omit H in
/-- A sum of zeros and ones is zero exactly where no term is one. -/
theorem sum_gate_eq_zero {n : ℕ} (A : Fin n → Prop) : (∑ i, if A i then (1 : EReal) else 0) = 0 ↔ ∀ i, ¬A i := by
  rw [Finset.sum_eq_zero_iff_of_nonneg fun i _ => by split_ifs <;> simp]
  refine forall_congr' fun i => ?_
  simp

/-- The map of lone reference points is 1 at these. -/
theorem refMap_apply (b : Fin 16) (r : Fin 2) (i : Fin 32) :
    X.refMap (ix3 b r i) = if (P b r).loneRef i then 1 else 0 := by
  unfold refMap k0_pay24 k0_pay19
  pointwise
  rw [show k0_pay22 (k0_pay6 (pt X.x1 2)) X.v53 X.v58 X.v63 X.v68 X.v69 X.v70 X.x3 X.x4 = X.nearMap from rfl]
  simp only [nearMap_apply H, H.mp]
  simp only [sum_gate_eq_zero]
  unfold Patch.loneRef
  split_ifs <;> simp_all

/-- The map of lone source points is 1 at these. -/
theorem srcMap_apply (b : Fin 16) (r : Fin 2) (j : Fin 32) :
    X.srcMap (ix3 b r j) = if (P b r).loneSrc j then 1 else 0 := by
  unfold srcMap noRef k0_pay26 k0_pay25 k0_pay20
  pointwise
  rw [show k0_pay22 (k0_pay6 (pt X.x1 2)) X.v53 X.v58 X.v63 X.v68 X.v69 X.v70 X.x3 X.x4 = X.nearMap from rfl]
  simp only [nearMap_apply H, H.ms]
  simp only [sum_gate_eq_zero]
  unfold Patch.loneSrc
  split_ifs <;> simp_all

/-- The distances of features: the two halves side by side, each as the patch pair has them. -/
theorem gaps_apply (b : Fin 16) (i j : Fin 32) (r : Fin 2) (k : Fin 64) :
    X.gaps (ix4 b i j ⟨64 * r.val + k.val, by omega⟩) = (P b r).normDiff i j k := by
  unfold gaps
  unfold_payloads
  pointwise
  obtain rfl | rfl : r = 0 ∨ r = 1 := by omega
  · simp [ft_apply]
    simp only [tr_eq, H.T b 0, H.f, H.h]
    rfl
  · simp [ft_apply]
    simp only [tr_eq, H.T b 1, H.f, H.h]
    rfl

end Blk

end Cert.KernelIdeal.Block

end
-- ==== Proof.KernelSums.lean ====
/-
  The nine scalars one grid point of the kernel adds into its result block are the sums, over the block's 16 x 2 patch pairs,
  of the pair's nine amounts (Spec.lean).
-/
module

public import proofs.«01_k».proof.Proof.KernelBlock
public import Idealize.ShloMosaic.Lib.Pipeline.ValueKit

@[expose] public section

set_option maxRecDepth 16384

noncomputable section

namespace Cert.KernelIdeal.Block

open Idealize.ShloMosaic Cert.KernelIdeal Cert.KernelIdeal.Gen Cert.Match
open scoped Classical

/-- The nine amounts of a patch pair that the kernel sums, in the order of its result rows. -/
def amount (P : Patch) : Fin 9 → EReal :=
  ![P.logMatch, P.numNear, P.logRef, P.numRef, P.logSrc, P.numSrc, P.pull P.normDiff, P.push P.normDiff, P.numFar]

/-- A reduction over every axis is the sum over all indices. -/
theorem total {s : Shape} {axes : List (Fin s.rank)} (h : s.Reduces axes S1) (v : s.Idx → EReal) (j : S1.Idx) :
    Ideal.reduceAdd h v j = ∑ i, v i := by
  unfold Ideal.reduceAdd
  refine Finset.sum_congr (Finset.filter_true_of_mem fun i _ => ?_) fun _ _ => rfl
  rw [eq_ix1 (h.drop i), eq_ix1 j]
  exact congrArg ix1 (Subsingleton.elim (α := Fin 1) _ _)

/-- Lane `c` of 128 counts for half `r` where it lies in that half. -/
theorem lane (b : Fin 16) (r : Fin 2) (c : Fin 128) : k0_pay50 (ix3 b r c) = if c.val / 64 = r.val then 1#1 else 0#1 := by
  unfold k0_pay50
  pointwise
  revert r c
  decide +kernel

/-- The lanes of half `r`, summed. -/
theorem sum_half (r : Fin 2) (F : Fin 128 → EReal) :
    (∑ c : Fin 128, Scalar.select (if c.val / 64 = r.val then 1#1 else 0#1) (F c) 0)
      = ∑ k : Fin 64, F ⟨64 * r.val + k.val, by omega⟩ := by
  rw [← Fin.sum_mul_add_fin 2 64 _ (by decide), Finset.sum_eq_single r]
  · refine Finset.sum_congr rfl fun k _ => ?_
    rw [if_pos (by dsimp only; omega)]
    refine congrArg F (Fin.ext ?_)
    dsimp only
    omega
  · intro a _ ha
    refine Finset.sum_eq_zero fun k _ => ?_
    rw [if_neg (by dsimp only; rw [← ne_eq, Fin.ext_iff.ne] at *; omega)]
    rfl
  · simp

/-- A 0/1 factor is a condition. -/
theorem gate_mul (Q : Prop) (x : EReal) : (if Q then (1 : EReal) else 0) * x = if Q then x else 0 := by
  split_ifs <;> simp

/-- The log of a score that is replaced by 1 where the 0/1 map is 0. -/
theorem gate_log (Q : Prop) (x : EReal) : Ideal.log (if 0 < (if Q then (1 : EReal) else 0) then x else 1) = if Q then Ideal.log x else 0 := by
  have h : Ideal.log ((1 : ℝ) : EReal) = 0 := by rw [Ideal.log_coe, if_neg (by norm_num)]; simp
  rw [EReal.coe_one] at h
  split_ifs <;> simp_all

namespace Blk

variable {X : Blk} {P : Fin 16 → Fin 2 → Patch} (H : Holds X P)

/-- A lane's sum of the matches' hinge terms, -/
theorem nearHinge_apply (b : Fin 16) (r : Fin 2) (c : Fin 128) :
    X.nearHinge (ix3 b r c)
      = ∑ i : Fin 32, ∑ j : Fin 32, X.nearMap (ix4 b r i j) * max (X.gaps (ix4 b i j c) - nearMargin) 0 := by
  unfold nearHinge k0_pay49
  pointwise
  exact Fin.sum_divmod_fin 32 (fun i j => X.nearMap (ix4 b r i j) * max (X.gaps (ix4 b i j c) - nearMargin) 0)

/-- and of the mismatches'. -/
theorem farHinge_sum (b : Fin 16) (r : Fin 2) (c : Fin 128) :
    ∑ q, k0_pay48 X.farMap (ix3 b r q) * X.farHinge (ix3 b q c)
      = ∑ i : Fin 32, ∑ j : Fin 32, X.farMap (ix4 b r i j) * max (farMargin - X.gaps (ix4 b i j c)) 0 := by
  unfold farHinge k0_pay47 k0_pay48
  pointwise
  exact Fin.sum_divmod_fin 32 (fun i j => X.farMap (ix4 b r i j) * max (farMargin - X.gaps (ix4 b i j c)) 0)

include H

/-! Each of the nine scalars. -/

/-- The log scores of the matches. -/
theorem scal0 : k0_pay27 X.nearMap X.x7 = ∑ b, ∑ r, (P b r).logMatch := by
  unfold k0_pay27
  pointwise [total]
  rw [sum_idx5]
  pointwise
  simp only [Fin.sum_univ_one, nearMap_apply H, gate_log, H.M]
  rfl
/-- The number of matches. -/
theorem scal1 : k0_pay28 X.nearMap = ∑ b, ∑ r, (P b r).numNear := by
  unfold k0_pay28
  pointwise [total]
  rw [sum_idx5]
  pointwise
  simp only [Fin.sum_univ_one, nearMap_apply H]
  rfl
/-- The log scores of the lone reference points. -/
theorem scal2 : k0_pay29 X.refMap X.x5 = ∑ b, ∑ r, (P b r).logRef := by
  unfold k0_pay29
  pointwise [total]
  rw [sum_idx4]
  pointwise
  simp only [Fin.sum_univ_one, refMap_apply H, gate_log, H.u]
  rfl
/-- The number of lone reference points. -/
theorem scal3 : k0_pay30 X.refMap = ∑ b, ∑ r, (P b r).numRef := by
  unfold k0_pay30
  pointwise [total]
  rw [sum_idx4]
  pointwise
  simp only [Fin.sum_univ_one, refMap_apply H]
  rfl
/-- The log scores of the lone source points. -/
theorem scal4 : k0_pay34 (k0_pay31 (k0_pay20 X.x4) X.noRef zero) (k0_pay32 X.x6) k0_pay33 = ∑ b, ∑ r, (P b r).logSrc := by
  unfold k0_pay34 k0_pay31 k0_pay32 k0_pay33
  rw [show k0_pay26 (k0_pay20 X.x4) X.noRef zero = X.srcMap from rfl]
  pointwise [total]
  rw [sum_idx4]
  pointwise
  simp only [Fin.sum_univ_one, srcMap_apply H, gate_log, H.w]
  rfl
/-- The number of lone source points. -/
theorem scal5 : k0_pay35 X.srcMap = ∑ b, ∑ r, (P b r).numSrc := by
  unfold k0_pay35
  pointwise [total]
  rw [sum_idx4]
  pointwise
  simp only [Fin.sum_univ_one, srcMap_apply H]
  rfl
/-- The hinge terms of the matches. -/
theorem scal6 : k0_pay51 X.nearHinge = ∑ b, ∑ r, (P b r).pull (P b r).normDiff := by
  unfold k0_pay51
  pointwise [total]
  rw [sum_idx4]
  pointwise
  simp only [Fin.sum_univ_one, lane, sum_half, nearHinge_apply, nearMap_apply H, gaps_apply H, gate_mul]
  rfl
/-- The hinge terms of the mismatches. -/
theorem scal7 : k0_pay52 X.farHinge (k0_pay48 X.farMap) = ∑ b, ∑ r, (P b r).push (P b r).normDiff := by
  unfold k0_pay52
  pointwise [total]
  rw [sum_idx4]
  pointwise
  simp only [Fin.sum_univ_one, lane, sum_half, farHinge_sum, farMap_apply H, gaps_apply H, gate_mul]
  rfl
/-- The number of mismatches. -/
theorem scal8 : k0_pay36 X.farMap = ∑ b, ∑ r, (P b r).numFar := by
  unfold k0_pay36
  pointwise [total]
  rw [sum_idx5]
  pointwise
  simp only [Fin.sum_univ_one, farMap_apply H]
  rfl

/-- Scalar `q` of the grid point is the sum of amount `q` over the block's patch pairs. -/
theorem scal_eq (q : Fin 9) : X.scal q = ∑ b, ∑ r, amount (P b r) q := by
  fin_cases q
  · exact scal0 H
  · exact scal1 H
  · exact scal2 H
  · exact scal3 H
  · exact scal4 H
  · exact scal5 H
  · exact scal6 H
  · exact scal7 H
  · exact scal8 H

end Blk

end Cert.KernelIdeal.Block

end
-- ==== Proof.KernelArray.lean ====
/-
  What the kernel leaves in its result block: row `q` holds, in every lane, the sum of amount `q` over all patch pairs.
-/
module

public import proofs.«01_k».proof.Proof.Gen.KernelIdeal.Frame
public import proofs.«01_k».proof.Proof.KernelSums
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.VecWindow

@[expose] public section

set_option maxRecDepth 16384

noncomputable section

namespace Cert.KernelIdeal.Arr

open Idealize.ShloMosaic Idealize.ShloMosaic.TcCoe Idealize.SL.Sem Cert.KernelIdeal Cert.KernelIdeal.Gen Cert.KernelIdeal.Block

/-- The term a grid point adds at an index of the result block. -/
def term (X : Blk) (y : S16x128.Idx) : EReal := if h : (y 0).val < 9 then X.scal ⟨(y 0).val, h⟩ else 0

/-- A store of row `o`, read back at an index. -/
theorem row_read {κ : Kind} {sp : Space} (v : View sig κ sp S16x128 .f32) (f : v.ty.Contents (Elt Ideal)) (o : ℕ)
    (inb : ∀ a : Fin 2, (![o, 0] : Fin 2 → ℕ) a + (![1, 128] : Fin 2 → ℕ) a ≤ (![16, 128] : Fin 2 → ℕ) a) (w : Vec Ideal S1x128 .f32)
    (L : List (View.Piece (Elt Ideal) S16x128 .f32)) (r : Fin 16) (l : Fin 128) :
    v.read (Elt Ideal) (v.writes (Elt Ideal) f (⟨Rect.unit ![o, 0] ![1, 128] inb, w⟩ :: L)) (ix2 r l)
      = if r.val = o then w (ix2 0 l) else v.read (Elt Ideal) (v.writes (Elt Ideal) f L) (ix2 r l) := by
  split_ifs with h
  · exact View.read_writes_cons_rows_of_mem (o := o) v f inb w L (ix2 r l) (ix2 0 l) rfl (by simp [h]) (by simp)
  · exact View.read_writes_cons_rows_of_not_mem (o := o) (W := 1) v f inb w L (ix2 r l) rfl rfl (by simp; omega)

/-- A store of the whole block, read back. -/
theorem whole_read {κ : Kind} {sp : Space} (v : View sig κ sp S16x128 .f32) (f : v.ty.Contents (Elt Ideal)) (w : Vec Ideal S16x128 .f32) :
    v.read (Elt Ideal) (v.writes (Elt Ideal) f [⟨Rect.unit ![0, 0] ![16, 128] inb_S16x128_S16x128_0_0, w⟩]) = w := by
  funext y
  exact View.read_writes_cons_unit_of_mem v f _ w [] y y rfl fun a => by fin_cases a <;> simp

/-- Nine rows, each rewritten by what it holds plus a scalar: every row is read back with its scalar added, the others as
    they were. -/
theorem rows {κ : Kind} {sp : Space} (v : View sig κ sp S16x128 .f32) (f : v.ty.Contents (Elt Ideal))
    (L : List (View.Piece (Elt Ideal) S16x128 .f32)) (Z : Vec Ideal S16x128 .f32) (hZ : v.read (Elt Ideal) (v.writes (Elt Ideal) f L) = Z)
    (s0 s1 s2 s3 s4 s5 s6 s7 s8 : EReal) (y : S16x128.Idx) :
    v.read (Elt Ideal) (v.writes (Elt Ideal) f
      (⟨Rect.unit ![8, 0] ![1, 128] inb_S16x128_S1x128_8_0, k0_pay3 s8 (View.ld Z (Rect.unit ![8, 0] ![1, 128] inb_S16x128_S1x128_8_0))⟩
      :: ⟨Rect.unit ![7, 0] ![1, 128] inb_S16x128_S1x128_7_0, k0_pay2 s7 (View.ld Z (Rect.unit ![7, 0] ![1, 128] inb_S16x128_S1x128_7_0))⟩
      :: ⟨Rect.unit ![6, 0] ![1, 128] inb_S16x128_S1x128_6_0, k0_pay1 s6 (View.ld Z (Rect.unit ![6, 0] ![1, 128] inb_S16x128_S1x128_6_0))⟩
      :: ⟨Rect.unit ![5, 0] ![1, 128] inb_S16x128_S1x128_5_0, k0_pay59 s5 (View.ld Z (Rect.unit ![5, 0] ![1, 128] inb_S16x128_S1x128_5_0))⟩
      :: ⟨Rect.unit ![4, 0] ![1, 128] inb_S16x128_S1x128_4_0, k0_pay58 s4 (View.ld Z (Rect.unit ![4, 0] ![1, 128] inb_S16x128_S1x128_4_0))⟩
      :: ⟨Rect.unit ![3, 0] ![1, 128] inb_S16x128_S1x128_3_0, k0_pay57 s3 (View.ld Z (Rect.unit ![3, 0] ![1, 128] inb_S16x128_S1x128_3_0))⟩
      :: ⟨Rect.unit ![2, 0] ![1, 128] inb_S16x128_S1x128_2_0, k0_pay56 s2 (View.ld Z (Rect.unit ![2, 0] ![1, 128] inb_S16x128_S1x128_2_0))⟩
      :: ⟨Rect.unit ![1, 0] ![1, 128] inb_S16x128_S1x128_1_0, k0_pay55 s1 (View.ld Z (Rect.unit ![1, 0] ![1, 128] inb_S16x128_S1x128_1_0))⟩
      :: ⟨Rect.unit ![0, 0] ![1, 128] inb_S16x128_S1x128_0_0, k0_pay54 s0 (View.ld Z (Rect.unit ![0, 0] ![1, 128] inb_S16x128_S1x128_0_0))⟩
      :: L)) y
      = Z y + if h : (y 0).val < 9 then (![s0, s1, s2, s3, s4, s5, s6, s7, s8] : Fin 9 → EReal) ⟨(y 0).val, h⟩ else 0 := by
  obtain ⟨r, l, rfl⟩ : ∃ r l, y = ix2 r l := ⟨_, _, eq_ix2 y⟩
  simp only [row_read, hZ]
  obtain ⟨r, hr⟩ := r
  interval_cases r <;> simp <;> unfold_payloads <;> pointwise

variable (m : (ℓ : Loc nD τ sig) → Buf (Elt Ideal) ℓ) (c : Dev nD)

/-- The ten input blocks of point `t`. -/
def blk (t : Fin cfg0.N) : Blk :=
  ⟨iblk m c 0 t, iblk m c 1 t, iblk m c 2 t, iblk m c 3 t, iblk m c 4 t, iblk m c 5 t, iblk m c 6 t, iblk m c 7 t, iblk m c 8 t, iblk m c 9 t⟩

omit m c in
/-- The nine scalars, given one by one. -/
theorem term_of (X : Blk) (s0 s1 s2 s3 s4 s5 s6 s7 s8 : EReal) (h0 : s0 = k0_pay27 X.nearMap X.x7)
    (h1 : s1 = k0_pay28 X.nearMap) (h2 : s2 = k0_pay29 X.refMap X.x5) (h3 : s3 = k0_pay30 X.refMap)
    (h4 : s4 = k0_pay34 (k0_pay31 (k0_pay20 X.x4) X.noRef Blk.zero) (k0_pay32 X.x6) k0_pay33) (h5 : s5 = k0_pay35 X.srcMap)
    (h6 : s6 = k0_pay51 X.nearHinge) (h7 : s7 = k0_pay52 X.farHinge (k0_pay48 X.farMap)) (h8 : s8 = k0_pay36 X.farMap)
    (y : S16x128.Idx) :
    (if h : (y 0).val < 9 then (![s0, s1, s2, s3, s4, s5, s6, s7, s8] : Fin 9 → EReal) ⟨(y 0).val, h⟩ else 0) = term X y := by
  subst h0 h1 h2 h3 h4 h5 h6 h7 h8
  unfold term
  refine dite_congr rfl (fun h => ?_) fun _ => rfl
  generalize (⟨(y 0).val, h⟩ : Fin 9) = q
  fin_cases q <;> rfl

/-- The first point starts the result block from zero, -/
theorem outs_A (t : Fin cfg0.N) (h0 : t.val % 8 = 0) (y : S16x128.Idx) :
    outsAt0 m c t.val t.isLt y = 0 + term (blk m c t) y := by
  rw [outsAt0_A m c t h0]
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_open
  simp (disch := decide) only [↓ View.readCov_skip, ↓ View.readCov_cons_toLoadRect, ↓ View.readCov_fill]
  frame_out
  generalize e0 : k0_pay27 (F := Ideal) _ _ = s0
  generalize e1 : k0_pay28 (F := Ideal) _ = s1
  generalize e2 : k0_pay29 (F := Ideal) _ _ = s2
  generalize e3 : k0_pay30 (F := Ideal) _ = s3
  generalize e4 : k0_pay34 (F := Ideal) _ _ _ = s4
  generalize e5 : k0_pay35 (F := Ideal) _ = s5
  generalize e6 : k0_pay51 (F := Ideal) _ = s6
  generalize e7 : k0_pay52 (F := Ideal) _ _ = s7
  generalize e8 : k0_pay36 (F := Ideal) _ = s8
  rw [← View.read_writes_junk_eq_canon (ms0_10 t).view,
    rows (ms0_10 t).view _ [⟨Rect.unit ![0, 0] ![16, 128] inb_S16x128_S16x128_0_0, k0_pay53 (F := Ideal)⟩] (k0_pay53 (F := Ideal))
      (whole_read (ms0_10 t).view _ _) s0 s1 s2 s3 s4 s5 s6 s7 s8 y,
    show k0_pay53 (F := Ideal) y = 0 by unfold k0_pay53; pointwise]
  refine congrArg _ (term_of ⟨x0, x1, x2, x3, x4, x5, x6, x7, x8, x9⟩ s0 s1 s2 s3 s4 s5 s6 s7 s8 ?_ ?_ ?_ ?_ ?_ ?_ ?_ ?_ ?_ y)
  · exact e0.symm
  · exact e1.symm
  · exact e2.symm
  · exact e3.symm
  · exact e4.symm
  · exact e5.symm
  · exact e6.symm
  · exact e7.symm
  · exact e8.symm

/-- and every other point adds into what the point before left. -/
theorem outs_B (t : Fin cfg0.N) (h0 : ¬t.val % 8 = 0) (y : S16x128.Idx) :
    outsAt0 m c t.val t.isLt y
      = outsAt0 m c (t.val - 1) (Nat.lt_of_le_of_lt (Nat.sub_le _ _) t.isLt) y + term (blk m c t) y := by
  rw [outsAt0_B m c t h0]
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_open
  simp (disch := decide) only [↓ View.readCov_skip, ↓ View.readCov_cons_toLoadRect, ↓ View.readCov_fill]
  frame_out
  generalize e0 : k0_pay27 (F := Ideal) _ _ = s0
  generalize e1 : k0_pay28 (F := Ideal) _ = s1
  generalize e2 : k0_pay29 (F := Ideal) _ _ = s2
  generalize e3 : k0_pay30 (F := Ideal) _ = s3
  generalize e4 : k0_pay34 (F := Ideal) _ _ _ = s4
  generalize e5 : k0_pay35 (F := Ideal) _ = s5
  generalize e6 : k0_pay51 (F := Ideal) _ = s6
  generalize e7 : k0_pay52 (F := Ideal) _ _ = s7
  generalize e8 : k0_pay36 (F := Ideal) _ = s8
  rw [rows (ms0_10 t).view _ [] (outsAt0 m c (t.val - 1) (Nat.lt_of_le_of_lt (Nat.sub_le _ _) t.isLt))
    (by rw [View.writes_nil]; exact Memref.IsWhole.read_unread ..) s0 s1 s2 s3 s4 s5 s6 s7 s8 y]
  refine congrArg _ (term_of ⟨x0, x1, x2, x3, x4, x5, x6, x7, x8, x9⟩ s0 s1 s2 s3 s4 s5 s6 s7 s8 ?_ ?_ ?_ ?_ ?_ ?_ ?_ ?_ ?_ y)
  · exact e0.symm
  · exact e1.symm
  · exact e2.symm
  · exact e3.symm
  · exact e4.symm
  · exact e5.symm
  · exact e6.symm
  · exact e7.symm
  · exact e8.symm

/-- The result block after the last point: the sum of all points' terms. -/
theorem outs_last (y : S16x128.Idx) :
    outsAt0 m c (t0_7 : Fin cfg0.N).val (t0_7 : Fin cfg0.N).isLt y = ∑ p : Fin cfg0.N, term (blk m c p) y := by
  rw [Pipeline.eq_sum_fin_of_reset_step_apply_last (fun n h => outsAt0 m c n h) 8 (fun _ => 0) (fun t y => term (blk m c t) y)
    (fun t h y => outs_A m c t h y) (fun t h y => outs_B m c t h y) (le_of_eq N_0) t0_7 rfl y, zero_add]

/-- The kernel's result array after the run. -/
theorem arr : (dats m 0 c).arrAt 10 cfg0.N = fun y => ∑ p : Fin cfg0.N, term (blk m c p) y := by
  refine (dats m 0 c).arrAt_eq_of_after_last 10 t0_7 (by decide +kernel) _ fun j => ?_
  blk_simp
  rw [after0_10]
  exact outs_last m c j

end Cert.KernelIdeal.Arr

end
-- ==== Proof.KernelBlocks.lean ====
/-
  Which patch pairs the blocks of a grid point hold, and so what the kernel's result array is over the arguments.
-/
module

public import proofs.«01_k».proof.Proof.KernelArray
public import Idealize.ShloMosaic.Lib.Claim
public import Idealize.ShloMosaic.Lib.StableHlo.ReadAt

@[expose] public section

set_option maxRecDepth 16384

noncomputable section

namespace Cert.KernelIdeal.Arr

open Idealize.ShloMosaic Idealize.ShloMosaic.TcCoe Idealize.SL.Sem Cert.KernelIdeal Cert.KernelIdeal.Gen Cert.KernelIdeal.Block

variable (m : (ℓ : Loc nD τ sig) → Buf (Elt Ideal) ℓ) (c : Dev nD)

/-- Patch pair `n` of the kernel's arguments. -/
def pair (n : Fin 256) : Match.Patch :=
  Match.pair (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) n

/-- The block of every window at a point. -/
theorem idx (t : Fin cfg0.N) : win0_0.index t = ![0, 0] ∧ win0_1.index t = ![0, t.val, 0, 0] ∧ win0_2.index t = ![0, t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0, 0] ∧ win0_8.index t = ![0, t.val, 0, 0, 0]
    ∧ win0_9.index t = ![0, t.val, 0, 0, 0] := by
  revert t
  decide +kernel

/-- Patch pair `r` of super-patch `B`. -/
def patchIx (B : Fin 128) (r : Fin 2) : Fin 256 := ⟨B.val * 2 + r.val, by omega⟩
/-- Super-patch `b` of point `t`. -/
def superIx (t : Fin cfg0.N) (b : Fin 16) : Fin 128 :=
  ⟨t.val * 16 + b.val, by have h : t.val < 8 := lt_of_lt_of_eq t.isLt N_0; omega⟩

/-- A bit as a number. -/
theorem uitofp_bit (x : BitVec 1) : FloatOps.uitofp (F := Ideal) .f32 x = if x = 1#1 then (1 : EReal) else 0 := by
  rcases BitVec.eq_zero_or_eq_one x with rfl | rfl
  · show (((0#1).toNat : ℝ) : EReal) = _
    simp
  · show (((1#1).toNat : ℝ) : EReal) = _
    simp

/-! The arrays the kernel reads, over the arguments: points and features by coordinate, the masks as numbers. -/

/-- The reference points. -/
theorem v1_at (l : Fin 3) (B : Fin 128) (r : Fin 2) (i : Fin 32) :
    V m c main_v1 (ix4 l B r i) = m ((c.tc : Thread nD τ).loc main_arg0) (ix3 (patchIx B r) i l) := by
  unfold V
  after_reads_at
  rfl
/-- The source points. -/
theorem v3_at (l : Fin 3) (B : Fin 128) (r : Fin 2) (i : Fin 32) :
    V m c main_v3 (ix4 l B r i) = m ((c.tc : Thread nD τ).loc main_arg1) (ix3 (patchIx B r) i l) := by
  unfold V
  after_reads_at
  rfl
/-- The mask of the reference points. -/
theorem v5_at (B : Fin 128) (r : Fin 2) (i : Fin 32) :
    (V m c main_v5 (ix3 B r i) : EReal) = if m ((c.tc : Thread nD τ).loc main_arg2) (ix2 (patchIx B r) i) = 1#1 then (1 : EReal) else (0 : EReal) := by
  unfold V
  after_reads_at
  exact uitofp_bit _
/-- The mask of the source points. -/
theorem v7_at (B : Fin 128) (r : Fin 2) (i : Fin 32) :
    (V m c main_v7 (ix3 B r i) : EReal) = if m ((c.tc : Thread nD τ).loc main_arg3) (ix2 (patchIx B r) i) = 1#1 then (1 : EReal) else (0 : EReal) := by
  unfold V
  after_reads_at
  exact uitofp_bit _
/-- The scores of the reference points. -/
theorem v8_at (B : Fin 128) (r : Fin 2) (i : Fin 32) :
    V m c main_v8 (ix3 B r i) = m ((c.tc : Thread nD τ).loc main_arg4) (ix2 (patchIx B r) i) := by
  unfold V
  after_reads_at
  rfl
/-- The scores of the source points. -/
theorem v9_at (B : Fin 128) (r : Fin 2) (i : Fin 32) :
    V m c main_v9 (ix3 B r i) = m ((c.tc : Thread nD τ).loc main_arg5) (ix2 (patchIx B r) i) := by
  unfold V
  after_reads_at
  rfl
/-- The matching scores. -/
theorem v10_at (B : Fin 128) (r : Fin 2) (i j : Fin 32) :
    V m c main_v10 (ix4 B r i j) = m ((c.tc : Thread nD τ).loc main_arg6) (ix3 (patchIx B r) i j) := by
  unfold V
  after_reads_at
  rfl
/-- The reference features. -/
theorem v12_at (l : Fin 3) (B : Fin 128) (r : Fin 2) (i : Fin 32) (k : Fin 64) :
    V m c main_v12 (ix5 l B r i k) = m ((c.tc : Thread nD τ).loc main_arg8) (ix4 (patchIx B r) i k l) := by
  unfold V
  after_reads_at
  rfl
/-- The source features. -/
theorem v14_at (l : Fin 3) (B : Fin 128) (r : Fin 2) (i : Fin 32) (k : Fin 64) :
    V m c main_v14 (ix5 l B r i k) = m ((c.tc : Thread nD τ).loc main_arg9) (ix4 (patchIx B r) i k l) := by
  unfold V
  after_reads_at
  rfl

set_option maxHeartbeats 1000000 in
/-- The blocks of point `t` hold its 32 patch pairs. -/
theorem holds (t : Fin cfg0.N) : Holds (blk m c t) fun b r => pair m c (patchIx (superIx t b) r) where
  T b r l k := show iblk m c 0 t (ix2 l k) = _ by blk_ext [iblk, V, (idx t).1]
  p b r i l := (show iblk m c 1 t (ix4 l b r i) = V m c main_v1 (ix4 l (superIx t b) r i) by blk_ext [iblk, (idx t).2.1]; rfl).trans (v1_at m c _ _ _ _)
  s b r i l := (show iblk m c 2 t (ix4 l b r i) = V m c main_v3 (ix4 l (superIx t b) r i) by blk_ext [iblk, (idx t).2.2.1]; rfl).trans (v3_at m c _ _ _ _)
  mp b r i := (show iblk m c 3 t (ix3 b r i) = V m c main_v5 (ix3 (superIx t b) r i) by blk_ext [iblk, (idx t).2.2.2.1]; rfl).trans (v5_at m c _ _ _)
  ms b r i := (show iblk m c 4 t (ix3 b r i) = V m c main_v7 (ix3 (superIx t b) r i) by blk_ext [iblk, (idx t).2.2.2.2.1]; rfl).trans (v7_at m c _ _ _)
  u b r i := (show iblk m c 5 t (ix3 b r i) = V m c main_v8 (ix3 (superIx t b) r i) by blk_ext [iblk, (idx t).2.2.2.2.2.1]; rfl).trans (v8_at m c _ _ _)
  w b r i := (show iblk m c 6 t (ix3 b r i) = V m c main_v9 (ix3 (superIx t b) r i) by blk_ext [iblk, (idx t).2.2.2.2.2.2.1]; rfl).trans (v9_at m c _ _ _)
  M b r i j := (show iblk m c 7 t (ix4 b r i j) = V m c main_v10 (ix4 (superIx t b) r i j) by blk_ext [iblk, (idx t).2.2.2.2.2.2.2.1]; rfl).trans (v10_at m c _ _ _ _)
  f b r i k l := (show iblk m c 8 t (ix5 l b r i k) = V m c main_v12 (ix5 l (superIx t b) r i k) by blk_ext [iblk, (idx t).2.2.2.2.2.2.2.2.1]; rfl).trans (v12_at m c _ _ _ _ _)
  h b r i k l := (show iblk m c 9 t (ix5 l b r i k) = V m c main_v14 (ix5 l (superIx t b) r i k) by blk_ext [iblk, (idx t).2.2.2.2.2.2.2.2.2]; rfl).trans (v14_at m c _ _ _ _ _)

end Cert.KernelIdeal.Arr

end
-- ==== Proof.Results.lean ====
/-
  The two results as functions of the nine totals over all patch pairs: the mean log scores and the mean hinge terms. And
  what both programs' counts have in common: a count is a sum of ones, whichever type it is kept in.
-/
module

public import proofs.«01_k».proof.Proof.Spec
public import Idealize.ShloMosaic.Lib.IndicatorCount

@[expose] public section

noncomputable section

namespace Cert.Match

open Idealize.ShloMosaic
open scoped Classical

/-- The first result, of the nine totals: the three mean log scores, negated. -/
def res1 (s : Fin 9 → EReal) : EReal :=
  -(Ideal.div (s 0) (max (s 1) 1) + Ideal.div (half * s 2) (max (s 3) 1) + Ideal.div (half * s 4) (max (s 5) 1))

/-- The second result, of the nine totals: the two mean hinge terms, or nothing where no pair is near. -/
def res2 (s : Fin 9 → EReal) : EReal :=
  if s 1 = 0 then 0
  else Ideal.div (s 6) (max (s 1 * channels) 1) + Ideal.div (s 7) (max (s 8 * channels) 1)

/-- A finite sum of reals, as extended reals. -/
theorem coe_sum {ι : Type} (S : Finset ι) (f : ι → ℝ) : ((∑ i ∈ S, f i : ℝ) : EReal) = ∑ i ∈ S, (f i : EReal) := by
  induction S using Finset.induction_on with
  | empty => simp
  | insert a S ha ih => rw [Finset.sum_insert ha, Finset.sum_insert ha, EReal.coe_add, ih]

/-- A sum of ones over the indices with a property is their number. -/
theorem sum_ones {ι : Type} [Fintype ι] (p : ι → Prop) :
    (∑ i, if p i then (1 : EReal) else 0) = ((Finset.univ.filter p).card : ℝ) := by
  have e : (∑ i, if p i then (1 : EReal) else 0) = ((∑ i, if p i then (1 : ℝ) else 0 : ℝ) : EReal) := by
    rw [coe_sum]
    exact Finset.sum_congr rfl fun i _ => by split_ifs <;> simp
  rw [e, Finset.sum_boole]

/-- The same number counted in 32-bit words. -/
theorem fold_ones {ι : Type} (S : Finset ι) (p : ι → Prop) :
    S.fold IntOp.addi (0#32) (fun i => BitVec.setWidth 32 (if p i then 1#1 else 0#1)) = BitVec.ofNat 32 (S.filter p).card := by
  rw [IndicatorCount.fold_addi_setWidth_eq_card]
  refine congrArg (fun T : Finset ι => BitVec.ofNat 32 T.card) (Finset.filter_congr fun i _ => ?_)
  by_cases h : p i <;> simp [h]

/-- Whether a count is zero. -/
theorem count_eq_zero (k : ℕ) (hk : k < 2 ^ 31) : IntOp.cmpi .eq (BitVec.ofNat 32 k) 0#32 = if k = 0 then 1#1 else 0#1 := by
  show BitVec.ofBool (BitVec.ofNat 32 k == 0#32) = _
  have : (BitVec.ofNat 32 k == 0#32) = decide (k = 0) := by
    rw [Bool.eq_iff_iff, beq_iff_eq, decide_eq_true_iff]
    constructor
    · intro h
      have := congrArg BitVec.toNat h
      simp only [BitVec.toNat_ofNat] at this
      omega
    · rintro rfl; rfl
  rw [this]
  by_cases h : k = 0 <;> simp [h]

/-- The larger of a count and one, as a number. -/
theorem count_max (k : ℕ) (hk : k < 2 ^ 31) :
    Scalar.sitofp (F := Ideal) .f32 (IntOp.maxsi (BitVec.ofNat 32 k) 1#32) = max ((k : ℝ) : EReal) 1 := by
  have hi : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  have hm : IntOp.maxsi (BitVec.ofNat 32 k) 1#32 = BitVec.ofNat 32 (max k 1) := by
    unfold IntOp.maxsi
    rw [BitVec.slt_eq_decide, hi 1 (by omega), hi k hk]
    by_cases h : 1 < k
    · rw [if_pos (by simpa using h), max_eq_left h.le]
    · rw [if_neg (by simpa using h), max_eq_right (not_lt.1 h)]
  show (((IntOp.maxsi (BitVec.ofNat 32 k) 1#32).toInt : ℝ) : EReal) = _
  rw [hm, hi _ (by omega), Int.cast_natCast, Nat.cast_max, EReal.coe_strictMono.monotone.map_max, Nat.cast_one, EReal.coe_one]

/-- A count times a constant, in words. -/
theorem count_mul (k n : ℕ) : IntOp.muli (BitVec.ofNat 32 k) (BitVec.ofNat 32 n) = BitVec.ofNat 32 (k * n) :=
  (BitVec.ofNat_mul ..).symm

/-- Three conditions, as one bit. -/
theorem bits_and (p q : Prop) [Decidable p] [Decidable q] (a b : BitVec 1) (h : q ↔ p ∧ a = 1#1 ∧ b = 1#1) :
    IntOp.andi (BitVec.ofBool (decide p)) (IntOp.andi a b) = if q then 1#1 else 0#1 := by
  rw [if_congr h rfl rfl]
  by_cases h : p <;> simp only [h, decide_true, decide_false, true_and, false_and, if_false] <;> clear * - <;> revert a b <;> decide

/-- A condition and a bit, as one bit. -/
theorem bit_and (p q : Prop) [Decidable p] [Decidable q] (a : BitVec 1) (h : q ↔ p ∧ a = 1#1) :
    IntOp.andi (if p then 1#1 else 0#1) a = if q then 1#1 else 0#1 := by
  rw [if_congr h rfl rfl]
  by_cases h : p <;> simp only [h, true_and, false_and, if_true, if_false] <;> clear * - <;> revert a <;> decide

/-- None of the indices has the property, found by counting in words. -/
theorem none_counted {n : ℕ} (hn : n < 2 ^ 31) (p : Fin n → Prop) :
    IntOp.cmpi .eq (Finset.univ.fold IntOp.addi (0#32) fun i => BitVec.setWidth 32 (if p i then 1#1 else 0#1)) 0#32
      = if ∀ i, ¬p i then 1#1 else 0#1 := by
  rw [fold_ones, count_eq_zero _ (lt_of_le_of_lt ((Finset.card_le_univ _).trans_eq (Fintype.card_fin n)) hn)]
  simp only [Finset.card_eq_zero, Finset.filter_eq_empty_iff, Finset.mem_univ, true_implies]

/-- How many triples have a property. -/
def num3 (p : Fin 256 → Fin 32 → Fin 32 → Prop) : ℕ :=
  (Finset.univ.filter fun k : Fin 256 × Fin 32 × Fin 32 => p k.1 k.2.1 k.2.2).card
/-- How many pairs have a property. -/
def num2 (p : Fin 256 → Fin 32 → Prop) : ℕ := (Finset.univ.filter fun k : Fin 256 × Fin 32 => p k.1 k.2).card

/-- There are 262144 triples. -/
theorem num3_le (p : Fin 256 → Fin 32 → Fin 32 → Prop) : num3 p ≤ 262144 := (Finset.card_le_univ _).trans (by simp)
/-- There are 8192 pairs. -/
theorem num2_le (p : Fin 256 → Fin 32 → Prop) : num2 p ≤ 8192 := (Finset.card_le_univ _).trans (by simp)

/-- A sum of ones over the triples that have a property is their number. -/
theorem sum3 (p : Fin 256 → Fin 32 → Fin 32 → Prop) :
    (∑ n, ∑ i, ∑ j, if p n i j then (1 : EReal) else 0) = (num3 p : ℝ) := by
  rw [num3, ← sum_ones, Fintype.sum_prod_type]
  exact Finset.sum_congr rfl fun n _ => (Fintype.sum_prod_type fun y : Fin 32 × Fin 32 => if p n y.1 y.2 then (1 : EReal) else 0).symm
/-- A sum of ones over the pairs that have a property is their number. -/
theorem sum2 (p : Fin 256 → Fin 32 → Prop) : (∑ n, ∑ i, if p n i then (1 : EReal) else 0) = (num2 p : ℝ) := by
  rw [num2, ← sum_ones, Fintype.sum_prod_type]

/-- The log of a score, the score being replaced where it does not count, and the log then dropped. -/
theorem gate_log (p : Prop) (x one zero : EReal) (h0 : zero = 0) :
    Scalar.select (if p then 1#1 else 0#1) (Ideal.log (Scalar.select (if p then 1#1 else 0#1) x one)) zero
      = if p then Ideal.log x else 0 := by
  subst h0
  by_cases h : p <;> simp [h, Scalar.select]

/-- A bit as a factor. -/
theorem gate_mul (p : Prop) (x : EReal) :
    x * FloatOps.uitofp (F := Ideal) .f32 (if p then 1#1 else 0#1 : BitVec 1) = if p then x else 0 := by
  show x * ((((if p then 1#1 else 0#1 : BitVec 1).toNat : ℕ) : ℝ) : EReal) = _
  by_cases h : p <;> simp [h]

/-- A sum over triples, with the last index summed outermost. -/
theorem sum_rotate (F : Fin 32 → Fin 32 → Fin 64 → EReal) : (∑ i, ∑ j, ∑ k, F i j k) = ∑ k, ∑ i, ∑ j, F i j k :=
  (Finset.sum_congr rfl fun _ _ => Finset.sum_comm).trans Finset.sum_comm

/-- The log scores that count, summed over triples, whatever replaces the others. -/
theorem sum_log3 (v : (⟨3, ![256, 32, 32]⟩ : Shape).Idx → BitVec 1) (x : (⟨3, ![256, 32, 32]⟩ : Shape).Idx → EReal)
    (p : Fin 256 → Fin 32 → Fin 32 → Prop) (hv : ∀ n i j, v (ix3 n i j) = if p n i j then 1#1 else 0#1)
    (one zero : EReal) (h0 : zero = 0) :
    (∑ i, Scalar.select (v i) (Ideal.log (Scalar.select (v i) (x i) one)) zero)
      = ∑ n, ∑ i, ∑ j, if p n i j then Ideal.log (x (ix3 n i j)) else 0 := by
  rw [sum_idx3]
  simp only [hv, gate_log _ _ _ _ h0]
/-- The same of pairs. -/
theorem sum_log2 (v : (⟨2, ![256, 32]⟩ : Shape).Idx → BitVec 1) (x : (⟨2, ![256, 32]⟩ : Shape).Idx → EReal)
    (p : Fin 256 → Fin 32 → Prop) (hv : ∀ n i, v (ix2 n i) = if p n i then 1#1 else 0#1) (one zero : EReal) (h0 : zero = 0) :
    (∑ i, Scalar.select (v i) (Ideal.log (Scalar.select (v i) (x i) one)) zero)
      = ∑ n, ∑ i, if p n i then Ideal.log (x (ix2 n i)) else 0 := by
  rw [sum_idx2]
  simp only [hv, gate_log _ _ _ _ h0]

/-- The hinge terms that count, summed, for a hinge `r` of the distance `d`. -/
theorem sum_hinge (v : (⟨3, ![256, 32, 32]⟩ : Shape).Idx → BitVec 1) (d : (⟨4, ![256, 32, 32, 64]⟩ : Shape).Idx → EReal)
    (r : EReal → EReal) (p : Fin 256 → Fin 32 → Fin 32 → Prop) (D : Fin 256 → Fin 32 → Fin 32 → Fin 64 → EReal)
    (hv : ∀ n i j, v (ix3 n i j) = if p n i j then 1#1 else 0#1) (hd : ∀ n i j k, d (ix4 n i j k) = D n i j k) :
    (∑ x, r (d x) * FloatOps.uitofp (F := Ideal) .f32 (v (ix3 (x 0) (x 1) (x 2))))
      = ∑ n, ∑ k, ∑ i, ∑ j, if p n i j then r (D n i j k) else 0 := by
  rw [sum_idx4]
  refine Finset.sum_congr rfl fun n _ => ?_
  rw [sum_rotate]
  refine Finset.sum_congr rfl fun k _ => Finset.sum_congr rfl fun i _ => Finset.sum_congr rfl fun j _ => ?_
  refine Eq.trans (congrArg₂ (fun (a : EReal) (b : BitVec 1) => r a * FloatOps.uitofp (F := Ideal) .f32 b) (hd n i j k) (hv n i j)) ?_
  exact gate_mul _ _

/-- Division by something not zero, after a factor. -/
theorem mul_div (a x y : EReal) (h : y ≠ 0) : a * Ideal.div x y = Ideal.div (a * x) y := by
  rw [Ideal.div, Ideal.div, if_neg h, if_neg h, mul_assoc]

/-- A maximum with one is not zero. -/
theorem max_one_ne_zero (x : EReal) : max x 1 ≠ 0 :=
  ne_of_gt (lt_of_lt_of_le zero_lt_one (le_max_right _ _))

/-- The number of channels, as a real. -/
theorem channels_eq : channels = ((64 : ℝ) : EReal) := by
  simp [Ideal.ofBits, Ideal.ieee, -EReal.coe_mul]
  norm_num

end Cert.Match

end
-- ==== Proof.KernelTail.lean ====
/-
  The kernel's two results: the sums of the amounts over all patch pairs, put together by the lines after the launch.
-/
module

public import proofs.«01_k».proof.Proof.KernelBlocks
public import proofs.«01_k».proof.Proof.Results

@[expose] public section

set_option maxRecDepth 16384

noncomputable section

namespace Cert.KernelIdeal.Arr

open Idealize.ShloMosaic Idealize.ShloMosaic.TcCoe Idealize.SL.Sem Cert.KernelIdeal Cert.KernelIdeal.Gen Cert.KernelIdeal.Block Cert.Match

variable (m : (ℓ : Loc nD τ sig) → Buf (Elt Ideal) ℓ) (c : Dev nD)

/-- Amount `q`, summed over all patch pairs. -/
def sums (q : Fin 9) : EReal := ∑ n : Fin 256, amount (pair m c n) q

/-- Row `q` of the kernel's result array. -/
theorem row_eq (q : Fin 9) (l : Fin 128) :
    (∑ p : Fin cfg0.N, term (blk m c p) (ix2 (⟨q.val, by omega⟩ : Fin 16) l)) = sums m c q := by
  unfold sums
  rw [← Fin.sum_mul_add_fin 128 2 _ (by decide : (256 : ℕ) = 128 * 2), ← Fin.sum_mul_add_fin cfg0.N 16 _ (by rw [show cfg0.N = 8 from N_0] : 128 = cfg0.N * 16)]
  refine Finset.sum_congr rfl fun t _ => ?_
  refine (dif_pos q.isLt).trans ?_
  exact Blk.scal_eq (holds m c t) q

section Tail

variable (V : Valuation τ sig (Elt Ideal)) (A : S16x128.Idx → EReal)

/-- The first result after the closing lines, by the kernel's result array. -/
theorem tail1 (hV : V (Proc.devRef .tc main_v15) = A) :
    StableHlo.after ([hostOps1, hostOps1_1] : List (List (HloOp τ sig (Elt Ideal)))).flatten V (Proc.devRef .tc main_v46) ix0
      = res1 fun q => A (ix2 (⟨q.val, by omega⟩ : Fin 16) (0 : Fin 128)) := by
  unfold hostOps1 hostOps1_1
  simp only [List.flatten_cons, List.flatten_nil, List.cons_append, List.nil_append, List.append_nil]
  after_reads_at
  rw [hV]
  rfl

/-- The second result after the closing lines, by the kernel's result array. -/
theorem tail2 (hV : V (Proc.devRef .tc main_v15) = A) :
    StableHlo.after ([hostOps1, hostOps1_1] : List (List (HloOp τ sig (Elt Ideal)))).flatten V (Proc.devRef .tc main_v55) ix0
      = res2 fun q => A (ix2 (⟨q.val, by omega⟩ : Fin 16) (0 : Fin 128)) := by
  unfold hostOps1 hostOps1_1
  simp only [List.flatten_cons, List.flatten_nil, List.cons_append, List.nil_append, List.append_nil]
  after_reads_at
  rw [hV]
  show (if _ then Ideal.ofBits .f32 0x00000000#32 else _) = _
  rw [Ideal.ofBits_zero_f32]
  rfl

end Tail

/-- What the closing lines find in the kernel's result array. -/
theorem found :
    Pipeline.withArrays cfg0.spec c (V0 m c) (fun w => (dats m 0 c).arrAt w cfg0.N) (Proc.devRef .tc main_v15)
      = fun y => ∑ p : Fin cfg0.N, term (blk m c p) y :=
  (Pipeline.withArrays_arr cfg0.spec (by decide) c (V0 m c) (fun w => (dats m 0 c).arrAt w cfg0.N) 10).trans (arr m c)

/-- The run of the kernel: its two results. -/
theorem run (g : Dev nD → PrngReg) :
    θ_run defs (onTc (τ := τ) (main (F := Ideal))) ⟨m, fun _ => 0, g⟩ (fun r => ∀ c : Dev nD,
      r.2.mem ((c.tc : Thread nD τ).loc main_v46) = (fun _ => res1 (sums m c))
        ∧ r.2.mem ((c.tc : Thread nD τ).loc main_v55) = (fun _ => res2 (sums m c))) := by
  run_from Gen.run_main m g
  · funext j
    obtain rfl : j = ix0 := funext fun k => k.elim0
    refine (tail1 _ _ (found m c)).trans (congrArg res1 (funext fun q => row_eq m c q 0))
  · funext j
    obtain rfl : j = ix0 := funext fun k => k.elim0
    refine (tail2 _ _ (found m c)).trans (congrArg res2 (funext fun q => row_eq m c q 0))

end Cert.KernelIdeal.Arr

end
-- ==== Proof.RefParts.lean ====
/-
  The reference's intermediate arrays, read at an index: each is the quantity of the patch pair (Spec.lean).
-/
module

public import proofs.«01_k».proof.Proof.Gen.ReferenceIdeal.Run
public import proofs.«01_k».proof.Proof.Results
public import Idealize.ShloMosaic.Lib.Tactic.CleanTypes

@[expose] public section

set_option maxRecDepth 16384

noncomputable section

namespace Cert.ReferenceIdeal.Read

open Idealize.ShloMosaic Idealize.ShloMosaic.TcCoe Cert.ReferenceIdeal Cert.ReferenceIdeal.Gen Cert.ReferenceIdeal.Value Cert.Match
open scoped Classical

variable (V : Valuation τ sig (Elt Ideal))

/-- Patch pair `n` of the contents of the ten arguments. -/
def pair (n : Fin 256) : Patch :=
  Match.pair (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) n

/-- The moved source points. -/
theorem moved_at (n : Fin 256) (j : Fin 32) (l : Fin 3) : res_main_v7 V (ix3 n j l) = (pair V n).moved j l := by
  unfold res_main_v7
  clean_types
  pointwise
  rw [Fin.sum_univ_three]
  rfl

/-- The squared distances of points. -/
theorem dist_at (n : Fin 256) (i j : Fin 32) : res_main_v20 V (ix3 n i j) = (pair V n).dist i j := by
  unfold res_main_v20
  clean_types
  pointwise [moved_at V]
  simp only [Fin.sum_univ_three]
  rfl

/-- The map of matches. -/
theorem near_at (n : Fin 256) (i j : Fin 32) : res_main_v28 V (ix3 n i j) = if (pair V n).near i j then 1#1 else 0#1 := by
  unfold res_main_v28 res_main_v25
  clean_types
  pointwise [dist_at V]
  exact bits_and _ _ _ _ Iff.rfl

/-- The map of mismatches. -/
theorem far_at (n : Fin 256) (i j : Fin 32) : res_main_v77 V (ix3 n i j) = if (pair V n).far i j then 1#1 else 0#1 := by
  unfold res_main_v77 res_main_v25
  clean_types
  pointwise [dist_at V]
  exact bits_and _ _ _ _ Iff.rfl

/-- The rotated source features. -/
theorem rot_at (n : Fin 256) (j : Fin 32) (k : Fin 64) (l : Fin 3) : res_main_v79 V (ix4 n j k l) = (pair V n).rot j k l := by
  unfold res_main_v79
  clean_types
  pointwise
  rw [Fin.sum_univ_three]
  rfl

/-- The distances of features. -/
theorem norm_at (n : Fin 256) (i j : Fin 32) (k : Fin 64) : res_main_v96 V (ix4 n i j k) = (pair V n).normDots i j k := by
  unfold res_main_v96
  clean_types
  pointwise [rot_at V]
  simp only [Fin.sum_univ_three]
  rw [Patch.normDots, Patch.sqDots, mul_comm ((pair V n).f i k 0) ((pair V n).rot j k 0),
    mul_comm ((pair V n).f i k 1) ((pair V n).rot j k 1), mul_comm ((pair V n).f i k 2) ((pair V n).rot j k 2)]
  rfl

/-- The reference points that match nothing. -/
theorem loneRef_at (n : Fin 256) (i : Fin 32) : res_main_v33 V (ix2 n i) = if (pair V n).loneRef i then 1#1 else 0#1 := by
  unfold res_main_v33
  clean_types
  pointwise [near_at V]
  rw [none_counted (by decide)]
  exact bit_and _ _ _ Iff.rfl

/-- The source points that match nothing. -/
theorem loneSrc_at (n : Fin 256) (j : Fin 32) : res_main_v38 V (ix2 n j) = if (pair V n).loneSrc j then 1#1 else 0#1 := by
  unfold res_main_v38
  clean_types
  pointwise [near_at V]
  rw [none_counted (by decide)]
  exact bit_and _ _ _ Iff.rfl

end Cert.ReferenceIdeal.Read

end
-- ==== Proof.RefValue.lean ====
/-
  The reference's two results: the sums of the amounts over all patch pairs, put together.
-/
module

public import proofs.«01_k».proof.Proof.RefParts
public import Idealize.ShloMosaic.Lib.Claim
public import Idealize.ShloMosaic.Lib.StableHlo.RunHlo

@[expose] public section

set_option maxRecDepth 16384

noncomputable section

namespace Cert.ReferenceIdeal.Read

open Idealize.ShloMosaic Idealize.ShloMosaic.TcCoe Idealize.SL.Sem Cert.ReferenceIdeal Cert.ReferenceIdeal.Gen Cert.ReferenceIdeal.Value Cert.Match
open scoped Classical

/-- The nine amounts of a patch pair that the reference sums. -/
def amount (P : Patch) : Fin 9 → EReal :=
  ![P.logMatch, P.numNear, P.logRef, P.numRef, P.logSrc, P.numSrc, P.pull P.normDots, P.push P.normDots, P.numFar]

/-- Amount `q`, summed over all patch pairs. -/
def sums (V : Valuation τ sig (Elt Ideal)) (q : Fin 9) : EReal := ∑ n : Fin 256, amount (pair V n) q

/-- A host reduction over every axis is the starting value and the sum over all indices. -/
theorem total {s : Shape} {axes : List (Fin s.rank)} (h : s.ReducesTo axes S_) (x : s.Idx → EReal) (init : EReal) (j : S_.Idx) :
    Ideal.hostReduceAdd h x init j = init + ∑ i, x i :=
  Ideal.hostReduceAdd_total h (fun b => b.elim0) x init j

section Parts

variable (V : Valuation τ sig (Elt Ideal))

/-! The counts, kept in words. -/

/-- The number of matches. -/
theorem fold_near :
    (Finset.fold IntOp.addi (0#32) (fun k : Fin 256 × Fin 32 × Fin 32 => BitVec.setWidth 32 (res_main_v28 V (ix3 k.1 k.2.1 k.2.2)))
      Finset.univ) = BitVec.ofNat 32 (num3 fun n => (pair V n).near) := by
  simp only [near_at]
  exact fold_ones _ _
/-- The number of mismatches. -/
theorem fold_far :
    (Finset.fold IntOp.addi (0#32) (fun k : Fin 256 × Fin 32 × Fin 32 => BitVec.setWidth 32 (res_main_v77 V (ix3 k.1 k.2.1 k.2.2)))
      Finset.univ) = BitVec.ofNat 32 (num3 fun n => (pair V n).far) := by
  simp only [far_at]
  exact fold_ones _ _
/-- The number of lone reference points. -/
theorem fold_loneRef :
    (Finset.fold IntOp.addi (0#32) (fun k : Fin 256 × Fin 32 => BitVec.setWidth 32 (res_main_v33 V (ix2 k.1 k.2))) Finset.univ)
      = BitVec.ofNat 32 (num2 fun n => (pair V n).loneRef) := by
  simp only [loneRef_at]
  exact fold_ones _ _
/-- The number of lone source points. -/
theorem fold_loneSrc :
    (Finset.fold IntOp.addi (0#32) (fun k : Fin 256 × Fin 32 => BitVec.setWidth 32 (res_main_v38 V (ix2 k.1 k.2))) Finset.univ)
      = BitVec.ofNat 32 (num2 fun n => (pair V n).loneSrc) := by
  simp only [loneSrc_at]
  exact fold_ones _ _

/-- Amount 1 is the number of matches. -/
theorem sums_near : sums V 1 = (num3 fun n => (pair V n).near : ℝ) := sum3 _
/-- Amount 8 is the number of mismatches. -/
theorem sums_far : sums V 8 = (num3 fun n => (pair V n).far : ℝ) := sum3 _
/-- Amount 3 is the number of lone reference points. -/
theorem sums_loneRef : sums V 3 = (num2 fun n => (pair V n).loneRef : ℝ) := sum2 _
/-- Amount 5 is the number of lone source points. -/
theorem sums_loneSrc : sums V 5 = (num2 fun n => (pair V n).loneSrc : ℝ) := sum2 _

end Parts

variable (m : (ℓ : Loc nD τ sig) → Buf (Elt Ideal) ℓ)

/-- The run of the reference: its two results. -/
theorem run (g : Dev nD → PrngReg) :
    θ_run defs (onTc (τ := τ) (main (F := Ideal))) ⟨m, fun _ => 0, g⟩ (fun r => ∀ c : Dev nD,
      r.2.mem ((c.tc : Thread nD τ).loc main_v74) = (fun _ => res1 (sums (StableHlo.launchContents m c)))
        ∧ r.2.mem ((c.tc : Thread nD τ).loc main_v129) = (fun _ => res2 (sums (StableHlo.launchContents m c)))) := by
  refine θ_run_mono (Value.run m g) fun r hr c => ⟨(hr c).1.trans ?_, (hr c).2.1.trans ?_⟩
  · clear hr
    funext j
    obtain rfl : j = ix0 := funext fun k => k.elim0
    generalize StableHlo.launchContents m c = V
    clean_types
    pointwise [total]
    rw [fold_near, fold_loneRef, fold_loneSrc, res1, sums_near, sums_loneRef, sums_loneSrc]
    refine congrArg Neg.neg (congrArg₂ (· + ·) (congrArg₂ (· + ·) (congrArg₂ Ideal.div ?_ ?_) ?_) ?_)
    · exact sum_log3 _ _ _ (near_at V) _ _ Ideal.ofBits_zero_f32
    · exact count_max _ (by have := num3_le fun n => (pair V n).near; omega)
    · refine (congrArg (half * ·) (congrArg₂ Ideal.div (sum_log2 _ _ _ (loneRef_at V) _ _ Ideal.ofBits_zero_f32)
        (count_max _ (by have := num2_le fun n => (pair V n).loneRef; omega)))).trans (mul_div _ _ _ (max_one_ne_zero _))
    · refine (congrArg (half * ·) (congrArg₂ Ideal.div (sum_log2 _ _ _ (loneSrc_at V) _ _ Ideal.ofBits_zero_f32)
        (count_max _ (by have := num2_le fun n => (pair V n).loneSrc; omega)))).trans (mul_div _ _ _ (max_one_ne_zero _))
  · clear hr
    funext j
    obtain rfl : j = ix0 := funext fun k => k.elim0
    generalize StableHlo.launchContents m c = V
    clean_types
    pointwise [total]
    have hn := num3_le fun n => (pair V n).near
    have hf := num3_le fun n => (pair V n).far
    rw [fold_near, fold_far, res2, sums_near, sums_far, channels_eq, ← EReal.coe_mul, ← EReal.coe_mul, count_mul, count_mul,
      count_eq_zero _ (by omega)]
    have hc : ∀ k : ℕ, k ≤ 262144 →
        Scalar.sitofp (F := Ideal) .f32 (IntOp.maxsi (BitVec.ofNat 32 (k * 64)) 1#32) = max (((k : ℝ) * 64 : ℝ) : EReal) 1 := fun k hk => by
      rw [count_max _ (by omega), Nat.cast_mul, Nat.cast_ofNat]
    by_cases h : (num3 fun n => (pair V n).near) = 0
    · rw [if_pos h, if_pos (by rw [h]; simp)]
      exact Ideal.ofBits_zero_f32
    · rw [if_neg h, if_neg (by simpa using h)]
      refine congrArg₂ (· + ·) (congrArg₂ Ideal.div ?_ (hc _ hn)) (congrArg₂ Ideal.div ?_ (hc _ hf))
      · exact sum_hinge _ _ (fun x => max (x - nearMargin) 0) _ _ (near_at V) (norm_at V)
      · exact sum_hinge _ _ (fun x => max (farMargin - x) 0) _ _ (far_at V) (norm_at V)

end Cert.ReferenceIdeal.Read

end
-- ==== Proof.Norms.lean ====
/-
  The two ways to a distance of features give the same hinge terms: the square by differences is the square by dots, where
  the rotation and the features are finite; the square times its reciprocal root is the root, where the square is not below
  the least square; and where it is below, a match costs nothing either way.
-/
module

public import proofs.«01_k».proof.Proof.Results

@[expose] public section

noncomputable section

namespace Cert.Match

open Idealize.ShloMosaic
open scoped Classical

/-- The least square, as a real. -/
theorem leastSq_eq : leastSq = (((9223372 : ℝ) / 9223372036854775808 : ℝ) : EReal) := by
  simp [Ideal.ofBits, Ideal.ieee, -EReal.coe_mul]
  norm_num

/-- The nearer margin, as a real. -/
theorem nearMargin_eq : nearMargin = (((13421773 : ℝ) / 134217728 : ℝ) : EReal) := by
  simp [Ideal.ofBits, Ideal.ieee, -EReal.coe_mul]
  norm_num

/-- The factor two, as a real. -/
theorem two_eq : two = ((2 : ℝ) : EReal) := by
  simp [Ideal.ofBits, Ideal.ieee, -EReal.coe_mul]
  norm_num

/-- The rotation and the features of a patch pair are finite. -/
structure Patch.Finite (P : Patch) : Prop where
  T : ∀ l k : Fin 3, ∃ r : ℝ, P.T l.castSucc k.castSucc = r
  f : ∀ i k l, ∃ r : ℝ, P.f i k l = r
  h : ∀ i k l, ∃ r : ℝ, P.h i k l = r

variable {P : Patch}

/-- A rotated feature is then finite, -/
theorem Patch.Finite.rot (H : P.Finite) (j : Fin 32) (k : Fin 64) (l : Fin 3) : ∃ r : ℝ, P.rot j k l = r := by
  obtain ⟨t0, h0⟩ := H.T l 0
  obtain ⟨t1, h1⟩ := H.T l 1
  obtain ⟨t2, h2⟩ := H.T l 2
  obtain ⟨x0, g0⟩ := H.h j k 0
  obtain ⟨x1, g1⟩ := H.h j k 1
  obtain ⟨x2, g2⟩ := H.h j k 2
  refine ⟨x0 * t0 + x1 * t1 + x2 * t2, ?_⟩
  rw [EReal.coe_add, EReal.coe_add, EReal.coe_mul, EReal.coe_mul, EReal.coe_mul, ← h0, ← h1, ← h2, ← g0, ← g1, ← g2]
  rfl

/-- and the two squares are one finite number. -/
theorem Patch.Finite.sq (H : P.Finite) (i j : Fin 32) (k : Fin 64) : ∃ r : ℝ, P.sqDiff i j k = r ∧ P.sqDots i j k = r := by
  obtain ⟨f0, h0⟩ := H.f i k 0
  obtain ⟨f1, h1⟩ := H.f i k 1
  obtain ⟨f2, h2⟩ := H.f i k 2
  obtain ⟨x0, g0⟩ := H.rot j k 0
  obtain ⟨x1, g1⟩ := H.rot j k 1
  obtain ⟨x2, g2⟩ := H.rot j k 2
  refine ⟨(f0 - x0) * (f0 - x0) + (f1 - x1) * (f1 - x1) + (f2 - x2) * (f2 - x2), ?_, ?_⟩
  · simp only [Patch.sqDiff, h0, h1, h2, g0, g1, g2, ← EReal.coe_sub, ← EReal.coe_mul, ← EReal.coe_add]
  · simp only [Patch.sqDots, h0, h1, h2, g0, g1, g2, two_eq, ← EReal.coe_sub, ← EReal.coe_mul, ← EReal.coe_add]
    rw [EReal.coe_eq_coe_iff]
    ring

/-- A square not below a positive number, times its reciprocal root, is its root. -/
theorem norm_of_le (x e : ℝ) (he : 0 < e) (h : e ≤ x) :
    (x : EReal) * Ideal.rsqrt (max x e) = Ideal.sqrt (max (x : EReal) e) := by
  have hx : 0 < x := he.trans_le h
  rw [max_eq_left (EReal.coe_le_coe_iff.2 h)]
  show (x : EReal) * (if x < 0 then ⊥ else if x = 0 then ⊤ else (((Real.sqrt x)⁻¹ : ℝ) : EReal)) = if x < 0 then ⊥ else ((Real.sqrt x : ℝ) : EReal)
  rw [if_neg hx.not_gt, if_neg hx.ne', if_neg hx.not_gt, ← EReal.coe_mul, ← div_eq_mul_inv, Real.div_sqrt]

/-- Below it, either form is less than a margin whose square is not below it, and so costs nothing. -/
theorem hinge_eq (x e d : ℝ) (he : 0 < e) (hd : 0 < d) (h : e ≤ d * d) :
    max ((x : EReal) * Ideal.rsqrt (max x e) - d) 0 = max (Ideal.sqrt (max (x : EReal) e) - d) 0 := by
  rcases le_or_gt e x with hx | hx
  · rw [norm_of_le x e he hx]
  · rw [max_eq_right (EReal.coe_le_coe_iff.2 hx.le)]
    have hs : Real.sqrt e ≤ d := (Real.sqrt_le_left hd.le).2 (by rw [sq]; exact h)
    have h0 : 0 < Real.sqrt e := Real.sqrt_pos.2 he
    have h1 : x * (Real.sqrt e)⁻¹ ≤ d := by
      rw [← div_eq_mul_inv, div_le_iff₀ h0]
      nlinarith [Real.mul_self_sqrt he.le]
    show max ((x : EReal) * (if e < 0 then ⊥ else if e = 0 then ⊤ else (((Real.sqrt e)⁻¹ : ℝ) : EReal)) - d) 0
      = max ((if e < 0 then ⊥ else ((Real.sqrt e : ℝ) : EReal)) - d) 0
    rw [if_neg he.not_gt, if_neg he.ne', if_neg he.not_gt, ← EReal.coe_mul, ← EReal.coe_sub, ← EReal.coe_sub, max_eq_right, max_eq_right]
    · exact EReal.coe_nonpos.2 (by linarith)
    · exact EReal.coe_nonpos.2 (by linarith)

/-- The matches' hinge terms are one sum, for either distance. -/
theorem pull_eq (H : P.Finite) : P.pull P.normDiff = P.pull P.normDots := by
  refine Finset.sum_congr rfl fun k _ => Finset.sum_congr rfl fun i _ => Finset.sum_congr rfl fun j _ => if_congr Iff.rfl ?_ rfl
  obtain ⟨r, h1, h2⟩ := H.sq i j k
  rw [Patch.normDiff, Patch.normDots, h1, h2, leastSq_eq, nearMargin_eq]
  exact hinge_eq _ _ _ (by norm_num) (by norm_num) (by norm_num)

/-- The mismatches' hinge terms are one sum, where no mismatch's square is below the least. -/
theorem push_eq (H : P.Finite) (hf : ∀ i j k, P.far i j → leastSq ≤ P.sqDots i j k) : P.push P.normDiff = P.push P.normDots := by
  refine Finset.sum_congr rfl fun k _ => Finset.sum_congr rfl fun i _ => Finset.sum_congr rfl fun j _ => ?_
  by_cases h : P.far i j
  · rw [if_pos h, if_pos h]
    obtain ⟨r, h1, h2⟩ := H.sq i j k
    have hr := hf i j k h
    rw [Patch.normDiff, Patch.normDots, h1, h2]
    rw [h2] at hr
    rw [leastSq_eq] at *
    rw [norm_of_le _ _ (by norm_num) (EReal.coe_le_coe_iff.1 hr)]
  · rw [if_neg h, if_neg h]

end Cert.Match

end
-- ==== Proof.PreRead.lean ====
/-
  What the precondition says of each patch pair (Spec.lean).
-/
module

public import proofs.«01_k».proof.Pre_negatives_apart
public import proofs.«01_k».proof.Proof.Results
public import Idealize.ShloMosaic.Lib.Tactic.CleanTypes

@[expose] public section

set_option maxRecDepth 16384

noncomputable section

namespace Cert.Pre_negatives_apart

open Idealize.ShloMosaic Cert.Match
open scoped Classical

/-- The shape relations the precondition's operations take. -/
theorem facts : Facts := by
  constructor <;> decide

variable [Facts]
open Facts

variable (a0 a1 : FVec Ideal S256x32x3 .f32) (a2 a3 : IVec S256x32 1) (a4 a5 : FVec Ideal S256x32 .f32) (a6 : FVec Ideal S256x32x32 .f32)
  (a7 : FVec Ideal S4x4 .f32) (a8 a9 : FVec Ideal S256x32x64x3 .f32)

/-- A number whose absolute value lies below infinity is real. -/
theorem real_of_lt {x : EReal} (h : BitVec.ofBool (decide (max x (-x) < Ideal.ofBits .f32 0x7F800000#32)) = 1#1) : ∃ r : ℝ, x = r := by
  have e : Ideal.ofBits .f32 0x7F800000#32 = ⊤ := by simp [Ideal.ofBits, Ideal.ieee]
  rw [e] at h
  induction x with
  | bot => simp at h
  | top => simp at h
  | coe r => exact ⟨r, rfl⟩

/-- One condition, or the opposite of three: the three give the one. -/
theorem of_bits (p q : Prop) [Decidable p] [Decidable q] (a b : BitVec 1)
    (h : IntOp.ori (BitVec.ofBool (decide p)) (~~~IntOp.andi (BitVec.ofBool (decide q)) (IntOp.andi a b)) = 1#1)
    (hq : q) (ha : a = 1#1) (hb : b = 1#1) : p := by
  subst ha hb
  by_contra hp
  simp only [hp, hq, decide_true, decide_false] at h
  revert h
  decide

/-! Under the precondition the rotation and the features are finite, -/

/-- The rotation is finite. -/
theorem rotation (h : (fn a0 a1 a2 a3 a4 a5 a6 a7 a8 a9).1 = fun _ => 1#1) (l k : Fin 3) :
    ∃ r : ℝ, a7 (ix2 l.castSucc k.castSucc) = r := by
  refine real_of_lt (Eq.trans ?_ (congrFun h (ix2 l k)))
  unfold fn fn_part1 fn_part2
  dsimp only
  pointwise
  rfl

/-- The reference features are finite. -/
theorem refFeats (h : (fn a0 a1 a2 a3 a4 a5 a6 a7 a8 a9).2.1 = fun _ => 1#1) (n : Fin 256) (i : Fin 32) (k : Fin 64) (l : Fin 3) :
    ∃ r : ℝ, a8 (ix4 n i k l) = r := by
  refine real_of_lt (Eq.trans ?_ (congrFun h (ix4 n i k l)))
  unfold fn fn_part1 fn_part2
  dsimp only
  pointwise
  rfl

/-- The source features are finite. -/
theorem srcFeats (h : (fn a0 a1 a2 a3 a4 a5 a6 a7 a8 a9).2.2.1 = fun _ => 1#1) (n : Fin 256) (i : Fin 32) (k : Fin 64) (l : Fin 3) :
    ∃ r : ℝ, a9 (ix4 n i k l) = r := by
  refine real_of_lt (Eq.trans ?_ (congrFun h (ix4 n i k l)))
  unfold fn fn_part1 fn_part2
  dsimp only
  pointwise
  rfl

/-- and the features of a mismatch have a square not below the least. -/
theorem apart (h : (fn a0 a1 a2 a3 a4 a5 a6 a7 a8 a9).2.2.2 = fun _ => 1#1) (n : Fin 256) (i j : Fin 32) (k : Fin 64)
    (hf : (pair a0 a1 a2 a3 a4 a5 a6 a7 a8 a9 n).far i j) :
    leastSq ≤ (pair a0 a1 a2 a3 a4 a5 a6 a7 a8 a9 n).sqDots i j k := by
  have e := congrFun h (ix4 n i j k)
  have hm : ∀ l : Fin 3, (∑ y : Fin 3, a1 (ix3 n j y) * a7 (ix2 (⟨l.val, by omega⟩ : Fin 4) (⟨y.val, by omega⟩ : Fin 4)))
      + a7 (ix2 (⟨l.val, by omega⟩ : Fin 4) 3) = (pair a0 a1 a2 a3 a4 a5 a6 a7 a8 a9 n).moved j l := fun l => by
    rw [Fin.sum_univ_three]
    rfl
  have hr : ∀ l : Fin 3, (∑ y : Fin 3, a9 (ix4 n j k y) * a7 (ix2 (⟨l.val, by omega⟩ : Fin 4) (⟨y.val, by omega⟩ : Fin 4)))
      = (pair a0 a1 a2 a3 a4 a5 a6 a7 a8 a9 n).rot j k l := fun l => by
    rw [Fin.sum_univ_three]
    rfl
  revert e
  unfold fn fn_part1 fn_part2
  dsimp only
  pointwise
  simp only [hm, hr]
  simp only [Fin.sum_univ_three]
  intro e
  have e' := of_bits _ _ _ _ e
  rw [Patch.sqDots, mul_comm (Patch.f _ i k 0) (Patch.rot _ j k 0),
    mul_comm (Patch.f _ i k 1) (Patch.rot _ j k 1), mul_comm (Patch.f _ i k 2) (Patch.rot _ j k 2)]
  exact e' hf.1 hf.2.1 hf.2.2

end Cert.Pre_negatives_apart

end
-- ==== Proof.lean ====
/-
  The proof of `Cert.Claim`. The two results of the kernel and of the reference are the same expressions `res1`, `res2`
  in nine amounts summed over the 256 patch pairs (`KernelTail`, `RefValue`). Seven of the amounts are one term on both
  sides; the other two, the feature losses, differ in how a distance of features is computed, and agree under the
  precondition (`Norms`, `PreRead`).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelTail
public import proofs.«01_k».proof.Proof.RefValue
public import proofs.«01_k».proof.Proof.Norms
public import proofs.«01_k».proof.Proof.PreRead
public import Idealize.ShloMosaic.Lib.Claim
public import Idealize.ShloMosaic.Adequacy
public import Idealize.ShloMosaic.Init

@[expose] public section

noncomputable section

namespace Cert.Proof

open Idealize.ShloMosaic Idealize.SL.Sem Cert.Match

/-- On a patch pair with a finite rotation and finite features, whose far points are at least the least square apart in
    every channel, the kernel and the reference form the same nine amounts. -/
theorem amount_eq {P : Patch} (H : P.Finite) (hf : ∀ i j k, P.far i j → leastSq ≤ P.sqDots i j k) :
    Cert.ReferenceIdeal.Read.amount P = Cert.KernelIdeal.Block.amount P := by
  rw [Cert.ReferenceIdeal.Read.amount, Cert.KernelIdeal.Block.amount, pull_eq H, push_eq H hf]

section Pair

variable (m : (ℓ : Loc Cert.KernelIdeal.nD Cert.KernelIdeal.τ Cert.KernelIdeal.sig) → Buf (Elt Ideal) ℓ)

/-- The precondition gives what `amount_eq` asks of each patch pair. -/
theorem amount_of_pre [Cert.Pre_negatives_apart.Facts] (h : Cert.Pre_KernelIdeal_negatives_apart m) (c : Dev Cert.KernelIdeal.nD) (n : Fin 256) :
    Cert.ReferenceIdeal.Read.amount (Cert.KernelIdeal.Arr.pair m c n) = Cert.KernelIdeal.Block.amount (Cert.KernelIdeal.Arr.pair m c n) :=
  amount_eq
    ⟨Cert.Pre_negatives_apart.rotation _ _ _ _ _ _ _ _ _ _ (h c).1,
      Cert.Pre_negatives_apart.refFeats _ _ _ _ _ _ _ _ _ _ (h c).2.1 n,
      Cert.Pre_negatives_apart.srcFeats _ _ _ _ _ _ _ _ _ _ (h c).2.2.1 n⟩
    (Cert.Pre_negatives_apart.apart _ _ _ _ _ _ _ _ _ _ (h c).2.2.2 n)

/-- So the sums over all patch pairs agree. -/
theorem sums_eq [Cert.Pre_negatives_apart.Facts] (h : Cert.Pre_KernelIdeal_negatives_apart m) (c : Dev Cert.KernelIdeal.nD)
    (V : Valuation Cert.ReferenceIdeal.τ Cert.ReferenceIdeal.sig (Elt Ideal))
    (hV : ∀ n, Cert.ReferenceIdeal.Read.pair V n = Cert.KernelIdeal.Arr.pair m c n) :
    Cert.ReferenceIdeal.Read.sums V = Cert.KernelIdeal.Arr.sums m c := by
  funext q
  refine Finset.sum_congr rfl fun n _ => ?_
  rw [hV n, amount_of_pre m h c n]

end Pair

/-- Under the precondition the kernel and the reference end with the same two results. -/
theorem value [Cert.Pre_negatives_apart.Facts] : Cert.algebraic_KernelIdeal_ReferenceIdeal_pre_negatives_apart := by
  pair_intro
  · run_from (Cert.KernelIdeal.Arr.run m g) & (Cert.KernelIdeal.Gen.frame m g)
  · have hs : ∀ c, Cert.ReferenceIdeal.Read.sums (StableHlo.launchContents m' c) = Cert.KernelIdeal.Arr.sums m c := fun c => by
      refine sums_eq m hpre c _ fun n => ?_
      obtain ⟨h0, h1, h2, h3, h4, h5, h6, h7, h8, h9⟩ := hagree c
      simp only [Cert.ReferenceIdeal.Read.pair, Cert.KernelIdeal.Arr.pair, StableHlo.launchContents_devRef, h0, h1, h2, h3, h4, h5, h6, h7, h8, h9]
    refine θ_run_mono (θ_run_and (Cert.ReferenceIdeal.Read.run m' g') (Cert.ReferenceIdeal.Value.run m' g')) fun r hr c => ?_
    have := (hr.2 c).2.2
    exact ⟨((hr.1 c).1).trans (congrArg (fun s => fun _ => res1 s) (hs c)), ((hr.1 c).2).trans (congrArg (fun s => fun _ => res2 s) (hs c)), this⟩

/-- The reference leaves its arguments alone, and it has no semaphore. -/
theorem reference_frame : Cert.quiescent_ReferenceIdeal := fun m g _ =>
  θ_run_mono (Cert.ReferenceIdeal.Value.run m g) fun r h => ⟨fun c => (h c).2.2, sem_eq_zero_of_no_sems (by decide) r.2⟩

/-- All claims: the frames of the three programs, the kernel's ideal form, and the values. -/
theorem claim : Cert.Claim :=
  ⟨Cert.Kernel.Gen.facts, Cert.KernelIdeal.Gen.facts, Cert.ReferenceIdeal.Gen.facts, Cert.Pre_negatives_apart.facts,
    fun m g _ => Cert.Kernel.Gen.frame m g,
    fun m g _ => Cert.KernelIdeal.Gen.frame m g,
    fun m g _ => Cert.KernelIdeal.Gen.frame m g,
    fun m g _ => reference_frame m g trivial,
    fun m g _ => reference_frame m g trivial,
    trivial,
    letI := Cert.Pre_negatives_apart.facts
    value⟩

end Cert.Proof

end
